-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x6912 : Shape := ⟨3, ![1, 4096, 6912]⟩
abbrev S1x4096x1 : Shape := ⟨3, ![1, 4096, 1]⟩
abbrev S6912x10240 : Shape := ⟨2, ![6912, 10240]⟩
abbrev S1x10240 : Shape := ⟨2, ![1, 10240]⟩
abbrev S4096x6912 : Shape := ⟨2, ![4096, 6912]⟩
abbrev S4096x1 : Shape := ⟨2, ![4096, 1]⟩
abbrev S4096x5120 : Shape := ⟨2, ![4096, 5120]⟩
abbrev S512x6912 : Shape := ⟨2, ![512, 6912]⟩
abbrev S512x1 : Shape := ⟨2, ![512, 1]⟩
abbrev S6912x256 : Shape := ⟨2, ![6912, 256]⟩
abbrev S1x256 : Shape := ⟨2, ![1, 256]⟩
abbrev S512x5120 : Shape := ⟨2, ![512, 5120]⟩
abbrev S20x512x256 : Shape := ⟨3, ![20, 512, 256]⟩
abbrev S512x256 : Shape := ⟨2, ![512, 256]⟩
abbrev S1x512x256 : Shape := ⟨3, ![1, 512, 256]⟩
abbrev S512 : Shape := ⟨1, ![512]⟩

abbrev nBuf : Space → Nat
  | .hbm => 8
  | .vmem => 18
  | .smem => 0
  | _ => 0

abbrev bufTy : (tb : Table) → Fin (tcTables nBuf tb) → BufTy
  | .hbm, ⟨0, _⟩ => ⟨S1x4096x6912, .fp8e4m3⟩
  | .hbm, ⟨1, _⟩ => ⟨S1x4096x1, .f32⟩
  | .hbm, ⟨2, _⟩ => ⟨S6912x10240, .fp8e4m3⟩
  | .hbm, ⟨3, _⟩ => ⟨S1x10240, .f32⟩
  | .hbm, ⟨4, _⟩ => ⟨S4096x6912, .fp8e4m3⟩
  | .hbm, ⟨5, _⟩ => ⟨S4096x1, .f32⟩
  | .hbm, ⟨6, _⟩ => ⟨S4096x5120, .fp8e4m3⟩
  | .hbm, ⟨7, _⟩ => ⟨S4096x1, .f32⟩
  | .local _ .vmem, ⟨0, _⟩ => ⟨S512x6912, .fp8e4m3⟩
  | .local _ .vmem, ⟨1, _⟩ => ⟨S512x6912, .fp8e4m3⟩
  | .local _ .vmem, ⟨2, _⟩ => ⟨S512x1, .f32⟩
  | .local _ .vmem, ⟨3, _⟩ => ⟨S512x1, .f32⟩
  | .local _ .vmem, ⟨4, _⟩ => ⟨S6912x256, .fp8e4m3⟩
  | .local _ .vmem, ⟨5, _⟩ => ⟨S6912x256, .fp8e4m3⟩
  | .local _ .vmem, ⟨6, _⟩ => ⟨S6912x256, .fp8e4m3⟩
  | .local _ .vmem, ⟨7, _⟩ => ⟨S6912x256, .fp8e4m3⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S512x5120, .fp8e4m3⟩
  | .local _ .vmem, ⟨13, _⟩ => ⟨S512x5120, .fp8e4m3⟩
  | .local _ .vmem, ⟨14, _⟩ => ⟨S512x1, .f32⟩
  | .local _ .vmem, ⟨15, _⟩ => ⟨S512x1, .f32⟩
  | .local _ .vmem, ⟨16, _⟩ => ⟨S20x512x256, .f32⟩
  | .local _ .vmem, ⟨17, _⟩ => ⟨S512x1, .f32⟩
  | _, _ => ⟨S1x4096x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 20], ![false, false]⟩

def k0_off1 (i : grid0.Coords) : Fin 3 → Nat :=
  let arg1 : BitVec 32 := BitVec.ofNat 32 (i 1).val
  let v27 : Index := Scalar.indexCast arg1
  let c0_15 : Index := 0#32
  let c0_16 : Index := 0#32
  ![v27.toNat, 0, 0]
def k0_cond1 (i : grid0.Coords) : BitVec 1 :=
  let arg1 : BitVec 32 := BitVec.ofNat 32 (i 1).val
  let c19_i32 : BitVec 32 := 19#32
  let v41 : BitVec 1 := Scalar.cmpi .eq arg1 c19_i32
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x6912 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6912x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S6912x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S1x4096x6912 : Shape := ⟨3, ![1, 4096, 6912]⟩
abbrev S1x4096x1 : Shape := ⟨3, ![1, 4096, 1]⟩
abbrev S6912x10240 : Shape := ⟨2, ![6912, 10240]⟩
abbrev S1x10240 : Shape := ⟨2, ![1, 10240]⟩
abbrev S4096x5120 : Shape := ⟨2, ![4096, 5120]⟩
abbrev S4096x1 : Shape := ⟨2, ![4096, 1]⟩
abbrev S4096x6912 : Shape := ⟨2, ![4096, 6912]⟩
abbrev S4096x10240 : Shape := ⟨2, ![4096, 10240]⟩
abbrev S4096 : Shape := ⟨1, ![4096]⟩

abbrev nBuf : Space → Nat
  | .hbm => 6
  | .vmem => 6
  | .smem => 0
  | _ => 0

abbrev bufTy : (tb : Table) → Fin (tcTables nBuf tb) → BufTy
  | .hbm, ⟨0, _⟩ => ⟨S1x4096x6912, .fp8e4m3⟩
  | .hbm, ⟨1, _⟩ => ⟨S1x4096x1, .f32⟩
  | .hbm, ⟨2, _⟩ => ⟨S6912x10240, .fp8e4m3⟩
  | .hbm, ⟨3, _⟩ => ⟨S1x10240, .f32⟩
  | .hbm, ⟨4, _⟩ => ⟨S4096x5120, .fp8e4m3⟩
  | .hbm, ⟨5, _⟩ => ⟨S4096x1, .f32⟩
  | .local _ .vmem, ⟨0, _⟩ => ⟨S1x4096x6912, .fp8e4m3⟩
  | .local _ .vmem, ⟨1, _⟩ => ⟨S1x4096x1, .f32⟩
  | .local _ .vmem, ⟨2, _⟩ => ⟨S6912x10240, .fp8e4m3⟩
  | .local _ .vmem, ⟨3, _⟩ => ⟨S1x10240, .f32⟩
  | .local _ .vmem, ⟨4, _⟩ => ⟨S4096x5120, .fp8e4m3⟩
  | .local _ .vmem, ⟨5, _⟩ => ⟨S4096x1, .f32⟩
  | _, _ => ⟨S1x4096x6912, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x4096x6912 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6912x10240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
/- The power-of-two scale of one token: the kernel's search for an exponent field and the reference's floor of a
   logarithm give one scale and one inverse scale. Extended reals only: nothing here mentions an array. -/
module

public import Idealize.ShloMosaic.Lib.Pipeline.ValueKit

@[expose] public section

set_option maxRecDepth 16384

noncomputable section

namespace Cert.Scale

open Idealize.ShloMosaic

/-! ## The powers of two with an all-zero fraction -/

/-- The number whose pattern is the exponent field `k` over a zero fraction. -/
def thr (k : ℕ) : EReal := Ideal.ofBits .f32 (BitVec.ofNat 32 k <<< 23)

theorem pattern : ∀ k : Fin 256, ((BitVec.ofNat 32 k.val <<< 23).extractLsb' 31 1 == 1#1) = false
    ∧ ((BitVec.ofNat 32 k.val <<< 23).extractLsb' 23 8).toNat = k.val
    ∧ ((BitVec.ofNat 32 k.val <<< 23).extractLsb' 0 23).toNat = 0 := by decide +kernel

/-- Field 0 is zero. -/
theorem thr_zero : thr 0 = 0 := by
  obtain ⟨h1, h2, h3⟩ := pattern 0
  simp [thr, Ideal.ofBits, Ideal.ieee]

/-- Field 255 is infinity. -/
theorem thr_top : thr 255 = ⊤ := by
  obtain ⟨h1, h2, h3⟩ := pattern 255
  simp [thr, Ideal.ofBits, Ideal.ieee]

/-- What a pattern with no sign, the field `k` (neither end) and a zero fraction denotes. -/
theorem ieee_mid (w : BitVec 32) (k : ℕ) (h0 : 1 ≤ k) (h1 : k ≤ 254) (p1 : (w.extractLsb' 31 1 == 1#1) = false)
    (p2 : (w.extractLsb' 23 8).toNat = k) (p3 : (w.extractLsb' 0 23).toNat = 0) :
    Ideal.ieee 8 23 w = (((2 : ℝ) ^ ((k : ℤ) - 127) : ℝ) : EReal) := by
  unfold Ideal.ieee
  dsimp only
  rw [p2, p3, if_neg (by norm_num; omega), if_neg (by omega), show ((w.extractLsb' (8 + 23) 1 == 1#1) = false) from p1]
  congr 1
  have e : ((k : ℤ) - (2 ^ (8 - 1) - 1) - (23 : ℕ)) = ((k : ℤ) - 127) - 23 := by norm_num
  rw [e, zpow_sub₀ (by norm_num : (2 : ℝ) ≠ 0)]
  norm_num
  field_simp

/-- A field from 1 to 254 is the power of two it encodes. -/
theorem thr_mid (k : ℕ) (h0 : 1 ≤ k) (h1 : k ≤ 254) : thr k = (((2 : ℝ) ^ ((k : ℤ) - 127) : ℝ) : EReal) := by
  obtain ⟨p1, p2, p3⟩ := pattern ⟨k, by omega⟩
  exact ieee_mid _ k h0 h1 p1 p2 p3

/-! ## The search -/

/-- One step of the search: raise the field by `b` where the power of two it then denotes is not above `t`. -/
def step (t : EReal) (f b : BitVec 32) : BitVec 32 :=
  Scalar.select (Ideal.cmp .oge t (Ideal.ofBits .f32 (IntOp.shli .vector (IntOp.addi f b) 23#32))) (IntOp.addi f b) f

/-- The eight steps. -/
def field (t : EReal) : BitVec 32 :=
  step t (step t (step t (step t (step t (step t (step t (step t 0#32 128#32) 64#32) 32#32) 16#32) 8#32) 4#32) 2#32) 1#32

/-- After the steps down to `b`, `f` is at or below `t`, and the field `2 b` higher is past `t` or past the last field. -/
def Found (t : EReal) (w : BitVec 32) (b2 : ℕ) : Prop :=
  ∃ f : ℕ, f + b2 ≤ 256 ∧ w = BitVec.ofNat 32 f ∧ thr f ≤ t ∧ (f + b2 = 256 ∨ t < thr (f + b2))

theorem step_found (t : EReal) (w : BitVec 32) (b : ℕ) (hb : 0 < b) (h : Found t w (b + b)) :
    Found t (step t w (BitVec.ofNat 32 b)) b := by
  obtain ⟨f, hf, rfl, hle, hlt⟩ := h
  have hadd : IntOp.addi (BitVec.ofNat 32 f) (BitVec.ofNat 32 b) = BitVec.ofNat 32 (f + b) := by
    simp [IntOp.addi, BitVec.ofNat_add]
  have hthr : Ideal.ofBits .f32 (IntOp.shli .vector (BitVec.ofNat 32 (f + b)) 23#32) = thr (f + b) := by
    unfold IntOp.shli thr
    rw [if_pos (by decide)]
    rfl
  unfold step
  rw [hadd, hthr]
  by_cases hc : thr (f + b) ≤ t
  · refine ⟨f + b, by omega, by simp [Scalar.select, Ideal.cmp, hc], hc, ?_⟩
    rcases hlt with h | h
    · left; omega
    · right; rwa [← add_assoc] at h
  · exact ⟨f, by omega, by simp [Scalar.select, Ideal.cmp, hc], hle, .inr (not_le.mp hc)⟩

/-- The search finds the field of `t`: the last power of two not above it. -/
theorem field_spec (t : EReal) (ht : 0 ≤ t) :
    ∃ k : ℕ, k ≤ 255 ∧ field t = BitVec.ofNat 32 k ∧ thr k ≤ t ∧ (k = 255 ∨ t < thr (k + 1)) := by
  have h0 : Found t 0#32 (128 + 128) := ⟨0, by norm_num, rfl, thr_zero ▸ ht, .inl rfl⟩
  have h := step_found t _ 1 (by norm_num) (step_found t _ 2 (by norm_num) (step_found t _ 4 (by norm_num)
    (step_found t _ 8 (by norm_num) (step_found t _ 16 (by norm_num) (step_found t _ 32 (by norm_num)
      (step_found t _ 64 (by norm_num) (step_found t _ 128 (by norm_num) h0)))))))
  obtain ⟨k, hk, hw, hle, hlt⟩ := h
  exact ⟨k, by omega, hw, hle, by rcases hlt with h | h; (left; omega); exact .inr h⟩

/-! ## The kernel's scale and inverse scale -/

/-- The factor the row maximum is multiplied by, the float32 nearest to 1/448. -/
def c448 : EReal := Ideal.ofBits .f32 0x3B124925#32

/-- The kernel's exponent of a row maximum. -/
def expo (a : EReal) : BitVec 32 :=
  Scalar.select (IntOp.andi (IntOp.andi (IntOp.cmpi .ne (field (max (a * c448) (-(a * c448)))) 0#32)
      (IntOp.cmpi .ne (field (max (a * c448) (-(a * c448)))) 255#32)) (Ideal.cmp .one a (Ideal.ofBits .f32 0x00000000#32)))
    (IntOp.subi (field (max (a * c448) (-(a * c448)))) 126#32) 0#32

/-- The pattern of a power of two from its exponent: the biased exponent, cut at the ends of the format. -/
def pat (e : BitVec 32) : BitVec 32 :=
  Scalar.select (IntOp.cmpi .sle (IntOp.addi e 127#32) 0#32) 0#32
    (IntOp.shli .vector (IntOp.minsi (IntOp.addi e 127#32) 255#32) 23#32)

/-- The kernel's scale. -/
def scaleK (a : EReal) : EReal := Ideal.ofBits .f32 (pat (expo a))

/-- The kernel's inverse scale. -/
def invK (a : EReal) : EReal := Ideal.ofBits .f32 (pat (IntOp.subi 0#32 (expo a)))

/-! ## The reference's scale and inverse scale -/

/-- The reference's exponent: zero at a zero row, below the normal numbers and at infinity, and elsewhere one more than
    the floor of the logarithm to base two. -/
def expoR (a : EReal) : EReal :=
  Scalar.select (Ideal.cmp .oeq a (Ideal.ofBits .f32 0x00000000#32)) (Ideal.ofBits .f32 0x00000000#32)
    (Scalar.select (IntOp.ori (Ideal.cmp .olt (a * c448) (Ideal.ofBits .f32 0x00800000#32))
        (Ideal.cmp .oeq (a * c448) (Ideal.ofBits .f32 0x7F800000#32))) (Ideal.ofBits .f32 0x00000000#32)
      (Ideal.liftRound Int.floor (Ideal.div (Ideal.log (a * c448)) (Ideal.log (Ideal.ofBits .f32 0x40000000#32)))
        + Ideal.ofBits .f32 0x3F800000#32))

/-- The reference's power of two: infinite above the normal numbers, zero below them. -/
def powR (e : EReal) : EReal :=
  Scalar.select (Ideal.cmp .ogt e (Ideal.ofBits .f32 0x42FE0000#32)) (Ideal.ofBits .f32 0x7F800000#32)
    (Scalar.select (Ideal.cmp .olt e (Ideal.ofBits .f32 0xC2FC0000#32)) (Ideal.ofBits .f32 0x00000000#32) (Ideal.exp2 e))

/-- The reference's scale. -/
def scaleR (a : EReal) : EReal := powR (expoR a)

/-- The reference's inverse scale. -/
def invR (a : EReal) : EReal := powR (Ideal.ofBits .f32 0x00000000#32 - expoR a)

/-! ## The literals -/

theorem lit_zero : Ideal.ofBits .f32 0x00000000#32 = 0 := by simp [Ideal.ofBits, Ideal.ieee]
theorem lit_top : Ideal.ofBits .f32 0x7F800000#32 = ⊤ := by simp [Ideal.ofBits, Ideal.ieee]
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_127 : Ideal.ofBits .f32 0x42FE0000#32 = ((127 : ℝ) : EReal) := by
  simp [Ideal.ofBits, Ideal.ieee, -EReal.coe_mul]; norm_num
theorem lit_n126 : Ideal.ofBits .f32 0xC2FC0000#32 = ((-126 : ℝ) : EReal) := by
  simp [Ideal.ofBits, Ideal.ieee, -EReal.coe_mul]; norm_num
theorem lit_tiny : Ideal.ofBits .f32 0x00800000#32 = thr 1 := rfl

/-- The factor is positive. -/
theorem c448_nonneg : 0 ≤ c448 := by
  have h : c448 = ((9586981 * (2 : ℝ) ^ (-32 : ℤ) : ℝ) : EReal) := by
    simp [c448, Ideal.ofBits, Ideal.ieee, -EReal.coe_mul]
  rw [h]
  exact_mod_cast (by positivity : (0 : ℝ) ≤ 9586981 * (2 : ℝ) ^ (-32 : ℤ))

/-! ## The kernel's values at a known field -/

/-- At a field from 1 to 254 the scale is the next power of two. -/
theorem pat_mid : ∀ k : Fin 256, 1 ≤ k.val → k.val ≤ 254 →
    pat (IntOp.subi (BitVec.ofNat 32 k.val) 126#32) = BitVec.ofNat 32 (k.val + 1) <<< 23 := by decide +kernel

/-- At a field from 1 to 254 the inverse scale is the power of two of the opposite exponent, zero past the last. -/
theorem pat_neg_mid : ∀ k : Fin 256, 1 ≤ k.val → k.val ≤ 254 →
    pat (IntOp.subi 0#32 (IntOp.subi (BitVec.ofNat 32 k.val) 126#32)) = BitVec.ofNat 32 (253 - k.val) <<< 23 := by
  decide +kernel

theorem pat_zero : pat 0#32 = BitVec.ofNat 32 127 <<< 23 := by decide +kernel
theorem pat_neg_zero : pat (IntOp.subi 0#32 0#32) = BitVec.ofNat 32 127 <<< 23 := by decide +kernel

/-- The exponent where the field is at an end. -/
theorem expo_end (a : EReal) (h : field (max (a * c448) (-(a * c448))) = 0#32 ∨ field (max (a * c448) (-(a * c448))) = 255#32) :
    expo a = 0#32 := by
  unfold expo
  rcases h with h | h <;> rw [h] <;> simp [Scalar.select, IntOp.andi, IntOp.cmpi]

/-- The exponent elsewhere. -/
theorem expo_mid (a : EReal) (k : ℕ) (h0 : 1 ≤ k) (h1 : k ≤ 254) (ha : a ≠ 0)
    (h : field (max (a * c448) (-(a * c448))) = BitVec.ofNat 32 k) :
    expo a = IntOp.subi (BitVec.ofNat 32 k) 126#32 := by
  have hb : ∀ k : Fin 256, 1 ≤ k.val → k.val ≤ 254 → IntOp.cmpi .ne (BitVec.ofNat 32 k.val) 0#32 = 1#1
      ∧ IntOp.cmpi .ne (BitVec.ofNat 32 k.val) 255#32 = 1#1 := by decide +kernel
  obtain ⟨b1, b2⟩ := hb ⟨k, by omega⟩ h0 h1
  simp only at b1 b2
  unfold expo
  rw [h, b1, b2, lit_zero]
  simp [Scalar.select, IntOp.andi, Ideal.cmp, ha]

/-! ## The reference's values in one binade -/

/-- `2 ^ m` as the base-two exponential of an integer. -/
theorem exp2_int (m : ℤ) : Ideal.exp2 ((m : ℝ) : EReal) = (((2 : ℝ) ^ m : ℝ) : EReal) := by
  show ((Real.rpow 2 (m : ℝ) : ℝ) : EReal) = _
  congr 1
  exact Real.rpow_intCast 2 m

/-- The power of two at an integer exponent. -/
theorem powR_int (m : ℤ) : powR ((m : ℝ) : EReal) =
    if 127 < m then ⊤ else if m < -126 then 0 else (((2 : ℝ) ^ m : ℝ) : EReal) := by
  unfold powR
  rw [lit_127, lit_n126, lit_zero, lit_top, exp2_int]
  have e1 : (((127 : ℝ) : EReal) < ((m : ℝ) : EReal)) ↔ 127 < m := by
    rw [EReal.coe_lt_coe_iff]; exact_mod_cast Iff.rfl
  have e2 : (((m : ℝ) : EReal) < ((-126 : ℝ) : EReal)) ↔ m < -126 := by
    rw [EReal.coe_lt_coe_iff]; exact_mod_cast Iff.rfl
  simp only [Scalar.select, Ideal.cmp, e1, e2]
  by_cases h1 : 127 < m <;> by_cases h2 : m < -126 <;> simp [h1, h2]

/-- The reference's exponent at an end: zero. -/
theorem expoR_end (a : EReal) (h : a * c448 < thr 1 ∨ a * c448 = ⊤) : expoR a = ((0 : ℤ) : ℝ) := by
  unfold expoR
  rw [lit_zero, lit_tiny, lit_top]
  by_cases ha : a = 0
  · simp [Scalar.select, Ideal.cmp, ha]
  · rcases h with h | h
    · simp only [Scalar.select, Ideal.cmp, h, IntOp.ori]
      by_cases h2 : a * c448 = ⊤ <;> simp [ha, h2]
    · simp only [Scalar.select, Ideal.cmp, h, IntOp.ori]
      by_cases h2 : (⊤ : EReal) < thr 1 <;> simp [ha, h2]

/-- The reference's exponent at a normal number `r`. -/
theorem expoR_mid (a : EReal) (r : ℝ) (hr : 0 < r) (h : a * c448 = (r : EReal)) (ht : thr 1 ≤ a * c448) (ha : a ≠ 0) :
    expoR a = ((⌊Real.log r / Real.log 2⌋ + 1 : ℤ) : ℝ) := by
  unfold expoR
  rw [lit_zero, lit_tiny, lit_top, lit_two, lit_one]
  have hn : ¬ a * c448 < thr 1 := not_lt.mpr ht
  have hx : a * c448 ≠ ⊤ := by rw [h]; exact EReal.coe_ne_top r
  have hl : Ideal.log (a * c448) = ((Real.log r : ℝ) : EReal) := by
    rw [h]; show (if r ≤ 0 then (⊥ : EReal) else _) = _
    rw [if_neg (not_le.mpr hr)]
  have hl2 : Ideal.log ((2 : ℝ) : EReal) = ((Real.log 2 : ℝ) : EReal) := by
    show (if (2 : ℝ) ≤ 0 then (⊥ : EReal) else _) = _
    rw [if_neg (by norm_num)]
  have hpos : Real.log 2 ≠ 0 := (Real.log_pos (by norm_num)).ne'
  have hd : Ideal.div ((Real.log r : ℝ) : EReal) ((Real.log 2 : ℝ) : EReal) = ((Real.log r / Real.log 2 : ℝ) : EReal) := by
    unfold Ideal.div
    rw [if_neg (by exact_mod_cast hpos), ← EReal.coe_inv, ← EReal.coe_mul, div_eq_mul_inv]
  rw [hl, hl2, hd]
  show Scalar.select _ _ (Scalar.select _ _ (((⌊Real.log r / Real.log 2⌋ : ℝ) : EReal) + ((1 : ℝ) : EReal))) = _
  rw [← EReal.coe_add]
  simp [Scalar.select, Ideal.cmp, IntOp.ori, hn, hx, ha]

/-- The floor of the base-two logarithm, from the powers of two on both sides. -/
theorem floor_log (r : ℝ) (hr : 0 < r) (n : ℤ) : n ≤ ⌊Real.log r / Real.log 2⌋ ↔ (2 : ℝ) ^ n ≤ r := by
  have hpos : 0 < Real.log 2 := Real.log_pos (by norm_num)
  rw [Int.le_floor, le_div_iff₀ hpos, ← Real.log_zpow, Real.log_le_log_iff (by positivity) hr]

/-! ## The two scales agree -/

/-- One scale, and one inverse scale, of a nonnegative row maximum. -/
theorem agree (a : EReal) (ha : 0 ≤ a) : scaleK a = scaleR a ∧ invK a = invR a := by
  have ht : 0 ≤ a * c448 := mul_nonneg ha c448_nonneg
  have habs : max (a * c448) (-(a * c448)) = a * c448 :=
    max_eq_left (le_trans (EReal.neg_le_zero.mpr ht) ht)
  obtain ⟨k, hk, hf, hle, hlt⟩ := field_spec (a * c448) ht
  have one : thr 127 = (((2 : ℝ) ^ (0 : ℤ) : ℝ) : EReal) := by
    rw [thr_mid 127 (by norm_num) (by norm_num)]; norm_num
  by_cases hend : k = 0 ∨ k = 255
  · have eK : expo a = 0#32 := expo_end a (by rw [habs, hf]; rcases hend with h | h <;> simp [h])
    have eR : expoR a = ((0 : ℤ) : ℝ) := by
      refine expoR_end a ?_
      rcases hend with h | h
      · left; subst h; rcases hlt with h | h; (exact absurd h (by norm_num)); exact h
      · right; subst h; rw [thr_top] at hle; exact top_le_iff.mp hle
    have eN : (0 : EReal) - (((0 : ℤ) : ℝ) : EReal) = ((0 : ℤ) : ℝ) := by simp
    unfold scaleK invK scaleR invR
    rw [eK, eR, pat_neg_zero, pat_zero, lit_zero, eN, powR_int]
    exact ⟨one, one⟩
  · rw [not_or] at hend
    have h1 : 1 ≤ k := by omega
    have h2 : k ≤ 254 := by omega
    have hthr := thr_mid k h1 h2
    have hlow : thr 1 ≤ thr k := by
      rw [hthr, thr_mid 1 (by norm_num) (by norm_num)]
      exact EReal.coe_le_coe_iff.mpr (zpow_le_zpow_right₀ (by norm_num) (by push_cast; omega))
    have hpos1 : (0 : EReal) < thr 1 := by
      rw [thr_mid 1 (by norm_num) (by norm_num)]
      exact_mod_cast (by positivity : (0 : ℝ) < 2 ^ (((1 : ℕ) : ℤ) - 127))
    have ha0 : a ≠ 0 := by
      rintro rfl
      rw [zero_mul] at hle
      exact absurd (lt_of_lt_of_le hpos1 (le_trans hlow hle)) (lt_irrefl _)
    have htop : a * c448 < ⊤ := by
      rcases hlt with h | h
      · omega
      · exact lt_of_lt_of_le h le_top
    obtain ⟨r, hr⟩ : ∃ r : ℝ, a * c448 = (r : EReal) :=
      ⟨(a * c448).toReal, (EReal.coe_toReal htop.ne (ne_of_gt (lt_of_lt_of_le EReal.bot_lt_zero ht))).symm⟩
    have hrk : (2 : ℝ) ^ ((k : ℤ) - 127) ≤ r := by
      rw [hr, hthr] at hle; exact EReal.coe_le_coe_iff.mp hle
    have hr0 : 0 < r := lt_of_lt_of_le (by positivity) hrk
    have eK := expo_mid a k h1 h2 ha0 (by rw [habs, hf])
    have eR := expoR_mid a r hr0 hr (le_trans hlow hle) ha0
    have hnlow : (k : ℤ) - 127 ≤ ⌊Real.log r / Real.log 2⌋ := (floor_log r hr0 _).mpr hrk
    have p1 := pat_mid ⟨k, by omega⟩ h1 h2
    have p2 := pat_neg_mid ⟨k, by omega⟩ h1 h2
    simp only at p1 p2
    generalize hn : ⌊Real.log r / Real.log 2⌋ = n at *
    have eN : (0 : EReal) - (((n + 1 : ℤ) : ℝ) : EReal) = ((-(n + 1) : ℤ) : ℝ) := by
      rw [zero_sub, ← EReal.coe_neg]; push_cast; rfl
    have goalK : scaleK a = thr (k + 1) ∧ invK a = thr (253 - k) := by
      unfold scaleK invK; rw [eK, p1, p2]; exact ⟨rfl, rfl⟩
    rw [goalK.1, goalK.2]
    unfold scaleR invR
    rw [eR, lit_zero, eN, powR_int, powR_int]
    by_cases h254 : k = 254
    · subst h254
      have : (127 : ℤ) ≤ n := by have := hnlow; push_cast at this; omega
      rw [if_pos (by omega), if_neg (by omega), if_pos (by omega)]
      exact ⟨thr_top, thr_zero⟩
    · have hk1 := thr_mid (k + 1) (by omega) (by omega)
      have hrlt : r < (2 : ℝ) ^ ((k : ℤ) + 1 - 127) := by
        rcases hlt with h | h
        · omega
        · rw [hr, hk1] at h
          have := EReal.coe_lt_coe_iff.mp h
          push_cast at this; exact this
      have hnhigh : ¬ (k : ℤ) + 1 - 127 ≤ n := by
        rw [← hn, floor_log r hr0]; exact not_le.mpr hrlt
      have hne : n = (k : ℤ) - 127 := by omega
      subst hne
      refine ⟨?_, ?_⟩
      · rw [if_neg (by omega), if_neg (by omega), hk1]
        congr 2; push_cast; ring
      · rw [if_neg (by omega)]
        by_cases h253 : k = 253
        · subst h253; rw [if_pos (by norm_num)]; exact thr_zero
        · rw [if_neg (by omega), thr_mid (253 - k) (by omega) (by omega)]
          congr 2; push_cast [Nat.cast_sub (show k ≤ 253 by omega)]; ring

end Cert.Scale

end
-- ==== Proof.Spec.lean ====
/- The mathematics both programs are compared with: a gated layer on quantised operands, the greatest magnitude of each
   token, and the token's outputs over a power of two, clipped. Functions of plain indices into the extended reals. -/
module

public import proofs.«01_k».proof.Proof.Scale

@[expose] public section

noncomputable section

namespace Cert.Spec

open Idealize.ShloMosaic

variable (X : Fin 4096 → Fin 6912 → EReal) (s : Fin 4096 → EReal) (W : Fin 6912 → Fin 10240 → EReal) (w : Fin 10240 → EReal)

/-- The two-sided hidden activation: the product of the codes, times the token's scale, times the column's scale. -/
def hid (r : Fin 4096) (c : Fin 10240) : EReal := (∑ k : Fin 6912, X r k * W k c) * s r * w c

/-- The gate half of the activation at output column `c`. -/
def gate (r : Fin 4096) (c : Fin 5120) : EReal := hid X s W w r ⟨c.val, by omega⟩

/-- The other half. -/
def up (r : Fin 4096) (c : Fin 5120) : EReal := hid X s W w r ⟨5120 + c.val, by omega⟩

/-- The layer's output before quantisation. -/
def out (r : Fin 4096) (c : Fin 5120) : EReal :=
  gate X s W w r c * Ideal.logistic (gate X s W w r c) * up X s W w r c

/-- A magnitude. -/
def mag (x : EReal) : EReal := max x (-x)

theorem mag_nonneg (x : EReal) : 0 ≤ mag x := by
  rcases le_total 0 x with h | h
  · exact le_max_of_le_left h
  · exact le_max_of_le_right (by rw [← neg_zero, EReal.neg_le_neg_iff]; exact h)

/-- The greatest magnitude among a token's outputs. -/
def amax (r : Fin 4096) : EReal := Finset.univ.sup fun c : Fin 5120 => mag (out X s W w r c)

theorem amax_nonneg (r : Fin 4096) : 0 ≤ amax X s W w r :=
  le_trans (mag_nonneg _) (Finset.le_sup (f := fun c : Fin 5120 => mag (out X s W w r c)) (Finset.mem_univ (0 : Fin 5120)))

/-- An output times the inverse scale, clipped to the range of the eight-bit format. -/
def clip (v inv : EReal) : EReal :=
  min (Ideal.ofBits .f32 0x43E00000#32) (max (Ideal.ofBits .f32 0xC3E00000#32) (v * inv))

/-- The code of an output, before it is stored in the eight-bit format. -/
def code (r : Fin 4096) (c : Fin 5120) : EReal := clip (out X s W w r c) (Scale.invR (amax X s W w r))

/-- The scale of a token. -/
def scale (r : Fin 4096) : EReal := Scale.scaleR (amax X s W w r)

/-! ## The argument arrays as functions of plain indices -/

def argX (x : FVec Ideal (⟨3, ![1, 4096, 6912]⟩ : Shape) .fp8e4m3) : Fin 4096 → Fin 6912 → EReal := fun r k => x (ix3 0 r k)
def argS (x : FVec Ideal (⟨3, ![1, 4096, 1]⟩ : Shape) .f32) : Fin 4096 → EReal := fun r => x (ix3 0 r 0)
def argW (x : FVec Ideal (⟨2, ![6912, 10240]⟩ : Shape) .fp8e4m3) : Fin 6912 → Fin 10240 → EReal := fun k c => x (ix2 k c)
def argV (x : FVec Ideal (⟨2, ![1, 10240]⟩ : Shape) .f32) : Fin 10240 → EReal := fun c => x (ix2 0 c)

/-- The fold a maximum reduction computes, from minus infinity, is the supremum. -/
theorem fold_max {n : ℕ} (f : Fin n → EReal) :
    Finset.univ.fold max (Ideal.ofBits .f32 0xFF800000#32) f = Finset.univ.sup f := by
  have h : Ideal.ofBits .f32 0xFF800000#32 = ⊥ := by simp [Ideal.ofBits, Ideal.ieee]
  rw [h]
  rfl

end Cert.Spec

end
-- ==== Proof.KernelIdeal.Runs.lean ====
/- What the two cases of the kernel body share: the closed form of its one condition over the grid points,
   where the two output windows are left alone, and the names of the staging and scratch memrefs. -/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The one condition of the body, in closed form over the 160 grid points -/

/-- The condition of the body's conditional: this point is the last column tile of its row block. -/
abbrev lastTile (i : grid0.Coords) : Prop := k0_cond1 i = 1#1

theorem coords1 (t : Fin cfg0.N) : (grid0.coords t 1).val = t.val % 20 := by
  have h : (grid0.coords t 1).val = t.val / 1 % 20 := Pipeline.Grid.coords_val t 1 (by decide) rfl
  rw [h, Nat.div_one]

theorem coords0 (t : Fin cfg0.N) : (grid0.coords t 0).val = t.val / 20 := by
  have ht : t.val < 160 := Nat.lt_of_lt_of_eq t.isLt N_0
  have h : (grid0.coords t 0).val = t.val / 20 % 8 := Pipeline.Grid.coords_val t 0 (by decide) rfl
  rw [h]; omega

/-- The body finishes a row block exactly at the points ≡ 19 (mod 20). -/
theorem lastTile_iff : ∀ t : Fin cfg0.N, lastTile (grid0.coords t) ↔ t.val % 20 = 19 :=
  (fun t => by
    have ht : t.val < 160 := Nat.lt_of_lt_of_eq t.isLt N_0
    simp only [lastTile, k0_cond1, coords1]
    word_cmp
   : ∀ t : Fin grid0.N, lastTile (grid0.coords t) ↔ t.val % 20 = 19)

/-- The flag "this is the first column tile", as the kernel computes it at point `t`. -/
theorem first_iff (t : Fin cfg0.N) :
    Scalar.cmpi .eq (BitVec.ofNat 32 (grid0.coords t 1).val) 0#32 = 1#1 ↔ t.val % 20 = 0 := by
  have ht : t.val < 160 := Nat.lt_of_lt_of_eq t.isLt N_0
  simp only [coords1]
  word_cmp

/-- Where the body stores its tile: plane `t % 20` of the staging array of a row block. -/
theorem off1_eq : ∀ t : Fin cfg0.N, k0_off1 (grid0.coords t) = ![t.val % 20, 0, 0] :=
  (by decide +kernel : ∀ t : Fin grid0.N, k0_off1 (grid0.coords t) = ![t.val % 20, 0, 0])

theorem off1_last (t : Fin cfg0.N) (h : t.val % 20 = 19) : k0_off1 (grid0.coords t) = ![19, 0, 0] := by
  rw [off1_eq t, h]

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
/-- Output 6 is left alone and is not written back before the last column tile. -/
theorem idleAt0_6 : ∀ t : Fin cfg0.N, ¬lastTile (grid0.coords t) → cfg0.idle 6 (grid0.coords t) = true := by decide +kernel
theorem noFlush0_6 : ∀ t : Fin cfg0.N, ¬lastTile (grid0.coords t) → (cfg0.win 6).flush t = false := by decide +kernel
/-- Output 6 is stored at the last column tile. -/
theorem liveAt0_6 : ∀ t : Fin cfg0.N, lastTile (grid0.coords t) → cfg0.idle 6 (grid0.coords t) = false := by decide +kernel
/-- Output 7 is left alone and is not written back before the last column tile. -/
theorem idleAt0_7 : ∀ t : Fin cfg0.N, ¬lastTile (grid0.coords t) → cfg0.idle 7 (grid0.coords t) = true := by decide +kernel
theorem noFlush0_7 : ∀ t : Fin cfg0.N, ¬lastTile (grid0.coords t) → (cfg0.win 7).flush t = false := by decide +kernel
/-- Output 7 is stored at the last column tile. -/
theorem liveAt0_7 : ∀ t : Fin cfg0.N, lastTile (grid0.coords t) → cfg0.idle 7 (grid0.coords t) = false := by decide +kernel

/-! ## The memrefs the body is called with -/

/-- One staging buffer of output window 6, through which its contents are stated (`View.read_writes_of_cover`: the
    choice does not matter). -/
abbrev VO0_6 : View sig .tc .vmem S512x5120 .fp8e4m3 := (Memref.whole cc0_stg6_0 : Memref sig .tc .vmem S512x5120 .fp8e4m3).view
/-- One staging buffer of output window 7, through which its contents are stated (`View.read_writes_of_cover`: the
    choice does not matter). -/
abbrev VO0_7 : View sig .tc .vmem S512x1 .f32 := (Memref.whole cc0_stg7_0 : Memref sig .tc .vmem S512x1 .f32).view
/-- Each window's current staging memref at point `t`, spelled as the pipeline passes it (`bodyAt0`), and its wholeness. -/
abbrev ms0_0 (t : Fin cfg0.N) : Memref sig .tc .vmem S512x6912 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6912x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6912x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x5120 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S20x512x256 .f32 := Memref.whole cc0_scratch0
abbrev scM0_1 : Memref sig .tc .vmem S512x1 .f32 := Memref.whole cc0_scratch1
/-- The scratch `arg10` the kernel carries between points, as a view: what it holds is stated through it. -/
abbrev VS0_0 : View sig .tc .vmem S20x512x256 .f32 := scM0_0.view
/-- The scratch `arg11` the kernel carries between points, as a view: what it holds is stated through it. -/
abbrev VS0_1 : View sig .tc .vmem S512x1 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KernelIdeal.Tile.lean ====
/- What one grid point of the kernel computes, as functions of the blocks it reads. -/
module

public import proofs.«01_k».proof.Proof.KernelIdeal.Runs
public import Idealize.ShloMosaic.Lib.WholeRead
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes, as functions of what it reads -/

/-- The tile of the product the body computes from its six input blocks, and stores in one plane of the staging array. -/
abbrev tileOf (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) : Vec F S1x512x256 .f32 := k0_pay38 x0 x1 x2 x3 x4 x5

/-- The running maximum after this point, from the maximum before it (which the first column tile discards). -/
abbrev accMax (i : grid0.Coords) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (d : Vec F S512x1 .f32) : Vec F S512x1 .f32 :=
  k0_pay1 (k0_pay39 x0 x1 x2 x3 x4 x5) (Scalar.cmpi .eq (BitVec.ofNat 32 (i 1).val) 0#32) d

/-- The exponent field the kernel finds from the row maxima `a`. -/
abbrev fieldOf (a : Vec F S512x1 .f32) : IVec S512x1 32 := k0_pay7 a (k0_pay4 a) (k0_pay5 a) k0_pay6

/-- The scales the kernel stores for the row maxima `a`. -/
abbrev scaleOf (a : Vec F S512x1 .f32) : Vec F S512x1 .f32 := k0_pay9 (k0_pay8 a (k0_pay4 a) (k0_pay5 a) k0_pay6)

/-- The factors the kernel multiplies a row by before rounding. -/
abbrev invOf (a : Vec F S512x1 .f32) : FVec F S512x1 .f32 := k0_pay10 (fieldOf a)

/-- The codes of one block of rows: column `y 1` is column `y 1 % 256` of the plane `y 1 / 256`. -/
def codesOf (a : Vec F S512x1 .f32) (ps : Fin 20 → Vec F S1x512x256 .f32) : Vec F S512x5120 .fp8e4m3 := fun y =>
  k0_pay3 (invOf a) (ps ⟨(y 1).val / 256, by have : (y 1).val < 5120 := (y 1).isLt; omega⟩)
    (fun b => ⟨if b.val = 0 then (y 0).val else (y 1).val % 256, by
      have h0 : (y 0).val < 512 := (y 0).isLt
      revert b; intro b; fin_cases b
      · exact h0
      · exact Nat.mod_lt _ (by decide)⟩)

/-- The codes at the place of element `x` of the `k`-th piece. -/
theorem codesOf_emb (a : Vec F S512x1 .f32) (ps : Fin 20 → Vec F S1x512x256 .f32) (k : Fin 20) (y : S512x5120.Idx)
    (x : S512x256.Idx) (h0 : (y 0).val = (x 0).val) (h1 : (y 1).val = 256 * k.val + (x 1).val) :
    codesOf a ps y = k0_pay3 (invOf a) (ps k) x := by
  have hx : (x 1).val < 256 := (x 1).isLt
  unfold codesOf
  have e1 : (y 1).val / 256 = k.val := by omega
  have e2 : (y 1).val % 256 = (x 1).val := by omega
  have e3 : (⟨(y 1).val / 256, by have : (y 1).val < 5120 := (y 1).isLt; omega⟩ : Fin 20) = k := Fin.ext e1
  rw [e3]
  congr 1
  funext b
  apply Fin.ext
  fin_cases b
  · exact h0
  · exact e2

/-! ## Whole loads -/

theorem zero2 : (![0, 0] : Fin 2 → Nat) = fun _ => 0 := by decide

/-- A load of all of a whole memref reads what it holds. -/
theorem readAt_full {a b : Nat} {e : EltTy} (M : Memref sig .tc .vmem (⟨2, ![a, b]⟩ : Shape) e) (h : M.IsWhole)
    (inb : ∀ k, (![0, 0] : Fin 2 → Nat) k + (⟨2, ![a, b]⟩ : Shape).size k ≤ (⟨2, ![a, b]⟩ : Shape).size k)
    (x : Vec F (⟨2, ![a, b]⟩ : Shape) e) :
    View.readAt (Elt F) M.view (Rect.unit (s := (⟨2, ![a, b]⟩ : Shape)) ![0, 0] (⟨2, ![a, b]⟩ : Shape).size inb).toLoadRect (h.unread x) = x := by
  funext y
  rw [h.readAt_unread]
  congr 1
  funext k
  apply Fin.ext
  have : (![0, 0] : Fin 2 → Nat) k = 0 := by rw [zero2]
  show (![0, 0] : Fin 2 → Nat) k + 1 * (y k).val = (y k).val
  omega

end Cert.KernelIdeal.Hand

end
-- ==== Proof.KernelIdeal.Inv.lean ====
/- What the two scratch arrays hold between grid points, and the proof data of the pipeline stated with it. -/
module

public import proofs.«01_k».proof.Proof.KernelIdeal.Tile
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch arrays hold between grid points -/

/-- The grid point with number `n`. -/
def pt (n : ℕ) : Fin cfg0.N := ⟨n % 160, by rw [show cfg0.N = 160 from N_0]; exact Nat.mod_lt _ (by decide)⟩

theorem pt_val (t : Fin cfg0.N) : pt t.val = t :=
  Fin.ext (Nat.mod_eq_of_lt (lt_of_lt_of_eq t.isLt (show cfg0.N = 160 from N_0)))

/-- The tile of the product computed at point `n`. -/
def tileAt (c : Dev nD) (n : ℕ) : Vec F S1x512x256 .f32 := tileOf (iblk m c 0 (pt n)) (iblk m c 1 (pt n)) (iblk m c 2 (pt n)) (iblk m c 3 (pt n)) (iblk m c 4 (pt n)) (iblk m c 5 (pt n))

/-- The row maxima of the tile computed at point `n`. -/
def stepMaxAt (c : Dev nD) (n : ℕ) : Vec F S512x1 .f32 := k0_pay39 (iblk m c 0 (pt n)) (iblk m c 1 (pt n)) (iblk m c 2 (pt n)) (iblk m c 3 (pt n)) (iblk m c 4 (pt n)) (iblk m c 5 (pt n))

/-- The running row maxima after point `n`: started afresh at the first column tile. -/
def maxAt (c : Dev nD) : ℕ → Vec F S512x1 .f32
  | 0 => stepMaxAt m c 0
  | n + 1 => if (n + 1) % 20 = 0 then stepMaxAt m c (n + 1) else maximumf (maxAt c n) (stepMaxAt m c (n + 1))

theorem accMax_first (i : grid0.Coords) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (d : Vec F S512x1 .f32)
    (h : Scalar.cmpi .eq (BitVec.ofNat 32 (i 1).val) 0#32 = 1#1) : accMax i x0 x1 x2 x3 x4 x5 d = k0_pay39 x0 x1 x2 x3 x4 x5 := by
  show shapeCast S512x1 (Scalar.select _ _ _) _ = _
  rw [shapeCast_self]
  exact if_pos h

theorem accMax_later (i : grid0.Coords) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (d : Vec F S512x1 .f32)
    (h : ¬Scalar.cmpi .eq (BitVec.ofNat 32 (i 1).val) 0#32 = 1#1) :
    accMax i x0 x1 x2 x3 x4 x5 d = maximumf d (k0_pay39 x0 x1 x2 x3 x4 x5) := by
  show shapeCast S512x1 (Scalar.select _ _ _) _ = _
  rw [shapeCast_self]
  exact if_neg h

/-- What the body leaves in the running maximum at point `t`, when it found the running maximum of the point before. -/
theorem maxAt_step (c : Dev nD) (t : Fin cfg0.N) (A : Vec F S512x1 .f32) (hA : t.val % 20 ≠ 0 → A = maxAt m c (t.val - 1)) :
    accMax (grid0.coords t) (iblk m c 0 t) (iblk m c 1 t) (iblk m c 2 t) (iblk m c 3 t) (iblk m c 4 t) (iblk m c 5 t) A = maxAt m c t.val := by
  have hs : k0_pay39 (iblk m c 0 t) (iblk m c 1 t) (iblk m c 2 t) (iblk m c 3 t) (iblk m c 4 t) (iblk m c 5 t) = stepMaxAt m c t.val := by unfold stepMaxAt; rw [pt_val]
  by_cases h : t.val % 20 = 0
  · rw [accMax_first _ _ _ _ _ _ _ _ ((first_iff t).mpr h), hs]
    cases hn : t.val with
    | zero => rfl
    | succ n => rw [hn] at h; simp only [maxAt]; rw [if_pos h]
  · rw [accMax_later _ _ _ _ _ _ _ _ (fun h' => h ((first_iff t).mp h')), hs, hA h]
    cases hn : t.val with
    | zero => rw [hn] at h; exact absurd rfl h
    | succ n => rw [hn] at h; simp only [maxAt, Nat.add_sub_cancel]; rw [if_neg h]

theorem planeInb (p : Fin 20) : ∀ a, (![p.val, 0, 0] : Fin 3 → Nat) a + S1x512x256.size a ≤ S20x512x256.size a := by
  revert p; decide

/-- Plane `p` of the staging array. -/
abbrev planeRect (p : Fin 20) : Rect S20x512x256 := Rect.unit (s := S20x512x256) ![p.val, 0, 0] S1x512x256.size (planeInb p)

/-- A store of plane `j` leaves the other planes as they were. -/
theorem store_plane (M : Memref sig .tc .vmem S20x512x256 .f32) (hM : M.IsWhole) (Y : Vec F S20x512x256 .f32) (j p : Fin 20)
    (off : Fin 3 → Nat) (hoff : off = ![j.val, 0, 0]) (inb : ∀ a, off a + S1x512x256.size a ≤ S20x512x256.size a)
    (w : Vec F S1x512x256 .f32) :
    View.ld (M.view.read (Elt F) (M.view.writes (Elt F) (hM.unread Y)
        [(⟨Rect.unit (s := S20x512x256) off S1x512x256.size inb, w⟩ : View.Piece (Elt F) S20x512x256 .f32)])) (planeRect p)
      = if p = j then w else View.ld Y (planeRect p) := by
  funext x
  have hx0 : (x 0).val = 0 := by have : (x 0).val < 1 := (x 0).isLt; omega
  show M.view.read (Elt F) (M.view.writes (Elt F) (hM.unread Y) _) ((planeRect p).idx x) = _
  by_cases h : p = j
  · rw [if_pos h]
    refine View.read_writes_cons_unit_of_mem M.view (hM.unread Y) inb w [] ((planeRect p).idx x) x hoff ?_
    intro a
    subst h
    show (![p.val, 0, 0] : Fin 3 → Nat) a + 1 * (x a).val = _
    omega
  · rw [if_neg h, View.read_writes_cons_unit_of_not_mem M.view (hM.unread Y) inb w [] ((planeRect p).idx x) hoff 0 ?_]
    · exact congrFun (hM.read_unread Y) _
    · show p.val + 1 * (x 0).val < j.val ∨ j.val + 1 ≤ p.val + 1 * (x 0).val
      have : p.val ≠ j.val := fun e => h (Fin.ext e)
      omega

/-- What is known of the two scratch arrays before point `n`, inside a row block: the running maximum of the points of
    the block so far, and their tiles in the planes they stored. -/
def Known (c : Dev nD) (n : ℕ) (Y : Vec F S20x512x256 .f32) (A : Vec F S512x1 .f32) : Prop :=
  n % 20 ≠ 0 → A = maxAt m c (n - 1) ∧ ∀ p : Fin 20, p.val < n % 20 → View.ld Y (planeRect p) = tileAt m c (20 * (n / 20) + p.val)

theorem known_start (c : Dev nD) (Y : Vec F S20x512x256 .f32) (A : Vec F S512x1 .f32) (n : ℕ) (h : n % 20 = 0) : Known m c n Y A :=
  fun h' => absurd h h'

/-- A point's store and new maximum carry what is known to the next point. -/
theorem known_step (c : Dev nD) (t : Fin cfg0.N) (M : Memref sig .tc .vmem S20x512x256 .f32) (hM : M.IsWhole)
    (Y : Vec F S20x512x256 .f32) (A : Vec F S512x1 .f32) (h : Known m c t.val Y A) :
    Known m c (t.val + 1)
      (M.view.read (Elt F) (M.view.writes (Elt F) (hM.unread Y)
        [(⟨Rect.unit (s := S20x512x256) (k0_off1 (grid0.coords t)) S1x512x256.size (k0_off1_inb (grid0.coords t)),
          tileOf (iblk m c 0 t) (iblk m c 1 t) (iblk m c 2 t) (iblk m c 3 t) (iblk m c 4 t) (iblk m c 5 t)⟩ : View.Piece (Elt F) S20x512x256 .f32)]))
      (accMax (grid0.coords t) (iblk m c 0 t) (iblk m c 1 t) (iblk m c 2 t) (iblk m c 3 t) (iblk m c 4 t) (iblk m c 5 t) A) := by
  intro hn
  refine ⟨?_, fun p hp => ?_⟩
  · rw [Nat.add_sub_cancel]; exact maxAt_step m c t A fun h' => (h h').1
  · have hj : t.val % 20 < 20 := Nat.mod_lt _ (by decide)
    rw [store_plane M hM Y ⟨t.val % 20, hj⟩ p _ (off1_eq t) _ _]
    have e : (t.val + 1) / 20 = t.val / 20 := by omega
    by_cases hpj : p = ⟨t.val % 20, hj⟩
    · rw [if_pos hpj, hpj, e]
      show _ = tileAt m c (20 * (t.val / 20) + t.val % 20)
      rw [Nat.div_add_mod]
      unfold tileAt; rw [pt_val]
    · rw [if_neg hpj, e]
      have hpv : p.val ≠ t.val % 20 := fun e' => hpj (Fin.ext e')
      exact (h (by omega)).2 p (by omega)

/-- The planes a row block has stored by its last column tile, that tile's own included. -/
def planesAt (c : Dev nD) (n : ℕ) : Fin 20 → Vec F S1x512x256 .f32 := fun p => tileAt m c (20 * (n / 20) + p.val)

theorem planesAt_last (c : Dev nD) (t : Fin cfg0.N) (h : t.val % 20 = 19) : planesAt m c t.val 19 = tileOf (iblk m c 0 t) (iblk m c 1 t) (iblk m c 2 t) (iblk m c 3 t) (iblk m c 4 t) (iblk m c 5 t) := by
  show tileAt m c (20 * (t.val / 20) + 19) = _
  rw [← h, Nat.div_add_mod]
  unfold tileAt; rw [pt_val]

/-- The codes and the scales stored at the last column tile of a row block. -/
def codesAt (c : Dev nD) (n : ℕ) : Vec F S512x5120 .fp8e4m3 := codesOf (maxAt m c n) (planesAt m c n)
def scalesAt (c : Dev nD) (n : ℕ) : Vec F S512x1 .f32 := scaleOf (maxAt m c n)

/-- The invariant of the grid: both scratch arrays at some contents of which `Known` holds, and the generator register. -/
def PhiS (c : Dev nD) (n : ℕ) : sProp 𝕄 :=
  iprop(∃ Y A, (owns (c : Thread nD τ) scM0_0 fullShare Y ∗ owns (c : Thread nD τ) scM0_1 fullShare A)
    ∗ ⌜Known m c n Y A⌝ ∗ (∃ r, prngReg c r))

/-! ## The pipeline's proof data -/

/-- The arrays as the region finds them; after the body each input's buffer at its block and the outputs' at the codes
    and the scales of the row block; nothing owed; each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t.val
    | ⟨7, _⟩ => scalesAt m c t.val
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesAt m c t.val := by dsimp only [dats]
theorem after0_7 (c : Dev nD) (t : Fin cfg0.N) : (dats m 0 c).after 7 t = scalesAt m c t.val := by dsimp only [dats]

/-- Each input's staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.KernelIdeal.Hand

end
-- ==== Proof.KerTile.lean ====
/- What the kernel computes at one grid point, entry by entry, from the argument arrays. -/
module

public import proofs.«01_k».proof.Proof.Spec
public import proofs.«01_k».proof.Proof.KernelIdeal.Inv

@[expose] public section

set_option maxRecDepth 16384

noncomputable section

namespace Cert.KerValue

open Idealize.ShloMosaic Idealize.ShloMosaic.TcCoe Idealize.SL.Sem
open Idealize.ShloMosaic.Pipeline (Dat)
open Cert.KernelIdeal Cert.KernelIdeal.Gen Cert.KernelIdeal.Hand
open Cert.Spec (argX argS argW argV)

/-! ## The payloads at an entry -/

/-- The tile before quantisation, from the blocks it is computed from. -/
theorem tile_at (x0 : FVec Ideal S512x6912 .fp8e4m3) (x1 : FVec Ideal S512x1 .f32) (x2 x3 : FVec Ideal S6912x256 .fp8e4m3)
    (x4 x5 : FVec Ideal S1x256 .f32) (p : Fin 512) (q : Fin 256) :
    k0_pay37 (F := Ideal) x0 x1 x2 x3 x4 x5 (ix2 p q)
      = ((∑ k : Fin 6912, x0 (ix2 p k) * x2 (ix2 k q)) * x1 (ix2 p 0) * x4 (ix2 0 q))
        * Ideal.logistic ((∑ k : Fin 6912, x0 (ix2 p k) * x2 (ix2 k q)) * x1 (ix2 p 0) * x4 (ix2 0 q))
        * ((∑ k : Fin 6912, x0 (ix2 p k) * x3 (ix2 k q)) * x1 (ix2 p 0) * x5 (ix2 0 q)) := by
  unfold Ideal.logistic
  pointwise [k0_pay37]
  simp only [zero_sub]

/-- The stored plane is the tile. -/
theorem plane_at (x0 : FVec Ideal S512x6912 .fp8e4m3) (x1 : FVec Ideal S512x1 .f32) (x2 x3 : FVec Ideal S6912x256 .fp8e4m3)
    (x4 x5 : FVec Ideal S1x256 .f32) (p : Fin 512) (q : Fin 256) :
    k0_pay38 (F := Ideal) x0 x1 x2 x3 x4 x5 (ix3 0 p q) = k0_pay37 (F := Ideal) x0 x1 x2 x3 x4 x5 (ix2 p q) := by
  pointwise [k0_pay38]

/-- The maximum along a row of a tile. -/
theorem rowMax (v : FVec Ideal S512x256 .f32) (p : Fin 512) :
    shapeCast S512x1 (multiReduction .maximumf [1] S512 v 0xFF800000#32 reduces_S512x256_S512 (.inl rfl) rfl)
      shapeCasts_S512_S512x1 (ix2 p 0) = Finset.univ.sup fun q : Fin 256 => v (ix2 p q) := by
  rw [← Spec.fold_max]
  pointwise

/-- The row maxima of a tile. -/
theorem stepMax_at (x0 : FVec Ideal S512x6912 .fp8e4m3) (x1 : FVec Ideal S512x1 .f32) (x2 x3 : FVec Ideal S6912x256 .fp8e4m3)
    (x4 x5 : FVec Ideal S1x256 .f32) (p : Fin 512) :
    k0_pay39 (F := Ideal) x0 x1 x2 x3 x4 x5 (ix2 p 0)
      = Finset.univ.sup fun q : Fin 256 => Spec.mag (k0_pay37 (F := Ideal) x0 x1 x2 x3 x4 x5 (ix2 p q)) := by
  unfold k0_pay39
  exact rowMax _ p

/-- A value per row, read along the row. -/
theorem perRow (v : FVec Ideal S512x1 .f32) (p : Fin 512) (q : Fin 256) :
    broadcastTo S512x256 v broadcasts_S512x1_S512x256 (ix2 p q) = v (ix2 p 0) := by pointwise

/-- A plane read as a matrix. -/
theorem planeCast (v : Vec Ideal S1x512x256 .f32) (p : Fin 512) (q : Fin 256) :
    shapeCast S512x256 v shapeCasts_S1x512x256_S512x256 (ix2 p q) = v (ix3 0 p q) := by pointwise

/-- The codes of a plane. -/
theorem code_at (inv : FVec Ideal S512x1 .f32) (v : Vec Ideal S1x512x256 .f32) (p : Fin 512) (q : Fin 256) :
    k0_pay3 (F := Ideal) inv v (ix2 p q) = Spec.clip (v (ix3 0 p q)) (inv (ix2 p 0)) := by
  rw [← perRow inv p q, ← planeCast v p q]
  rfl

/-! ## The search for the exponent field, on a column of row maxima -/

/-- One step of the search at every row. -/
def stepV (t : FVec Ideal S512x1 .f32) (f b : IVec S512x1 32) : IVec S512x1 32 :=
  select (cmpf .oge (absf t) (bitcastToFloat .f32 (shli (addi f b) (broadcast S512x1 23#32)))) (addi f b) f

theorem stepV_at (t : FVec Ideal S512x1 .f32) (f b : IVec S512x1 32) (i : S512x1.Idx) :
    stepV t f b i = Scale.step (max (t i) (-(t i))) (f i) (b i) := rfl

/-- The eight steps at every row. -/
def fieldV (t : FVec Ideal S512x1 .f32) : IVec S512x1 32 :=
  stepV t (stepV t (stepV t (stepV t (stepV t (stepV t (stepV t (stepV t (broadcast S512x1 0#32) (broadcast S512x1 128#32)) (broadcast S512x1 64#32))
    (broadcast S512x1 32#32)) (broadcast S512x1 16#32)) (broadcast S512x1 8#32)) (broadcast S512x1 4#32)) (broadcast S512x1 2#32)) (broadcast S512x1 1#32)

theorem fieldV_at (t : FVec Ideal S512x1 .f32) (i : S512x1.Idx) : fieldV t i = Scale.field (max (t i) (-(t i))) := by
  unfold fieldV Scale.field
  simp only [stepV_at]
  rfl

/-- The first five steps, as the kernel writes them. -/
theorem first_steps (a : FVec Ideal S512x1 .f32) : k0_pay5 (F := Ideal) a
    = stepV (k0_pay4 a) (stepV (k0_pay4 a) (stepV (k0_pay4 a) (stepV (k0_pay4 a) (stepV (k0_pay4 a) (broadcast S512x1 0#32) (broadcast S512x1 128#32))
        (broadcast S512x1 64#32)) (broadcast S512x1 32#32)) (broadcast S512x1 16#32)) (broadcast S512x1 8#32) := by
  unfold k0_pay5
  rfl

/-- The exponent from the field, at every row. -/
def expoV (a : FVec Ideal S512x1 .f32) (f : IVec S512x1 32) : IVec S512x1 32 :=
  select (andi (andi (cmpi .ne f (broadcast S512x1 0#32)) (cmpi .ne f (broadcast S512x1 255#32)))
    (cmpf .one a (broadcast S512x1 (Scalar.ofBits .f32 0x00000000#32)))) (subi f (broadcast S512x1 126#32)) (broadcast S512x1 0#32)

/-- The last three steps and the exponent, as the kernel writes them. -/
theorem last_steps (a t : FVec Ideal S512x1 .f32) (f : IVec S512x1 32) : k0_pay7 (F := Ideal) a t f k0_pay6
    = expoV a (stepV t (stepV t (stepV t f (broadcast S512x1 4#32)) (broadcast S512x1 2#32)) (broadcast S512x1 1#32)) := by
  unfold k0_pay7 k0_pay6 expoV
  rfl

theorem expoV_at (a : FVec Ideal S512x1 .f32) (f : IVec S512x1 32) (i : S512x1.Idx)
    (h : f i = Scale.field (max (a i * Scale.c448) (-(a i * Scale.c448)))) : expoV a f i = Scale.expo (a i) := by
  unfold Scale.expo
  rw [← h]
  rfl

/-- The exponents of the row maxima. -/
theorem field_eq (a : FVec Ideal S512x1 .f32) : fieldOf (F := Ideal) a = fun i => Scale.expo (a i) := by
  unfold fieldOf
  rw [first_steps, last_steps]
  funext i
  exact expoV_at a _ i (fieldV_at (k0_pay4 a) i)

/-- The patterns of the scales are those of the exponents. -/
theorem pat_eq (a t : FVec Ideal S512x1 .f32) (f b : IVec S512x1 32) :
    k0_pay8 (F := Ideal) a t f b = fun i => Scale.pat (k0_pay7 (F := Ideal) a t f b i) := by
  unfold k0_pay8
  generalize k0_pay7 (F := Ideal) a t f b = e
  rfl

/-- The scales of the row maxima. -/
theorem scale_eq (a : FVec Ideal S512x1 .f32) : scaleOf (F := Ideal) a = fun i => Scale.scaleK (a i) := by
  have h := field_eq a
  unfold fieldOf at h
  unfold scaleOf
  rw [pat_eq, h]
  rfl

/-- The inverse scales of the row maxima. -/
theorem inv_eq (a : FVec Ideal S512x1 .f32) : invOf (F := Ideal) a = fun i => Scale.invK (a i) := by
  unfold invOf
  rw [field_eq]
  rfl

end Cert.KerValue

end
-- ==== Proof.KerValue.lean ====
/- What the kernel's result arrays hold after the whole grid, entry by entry. -/
module

public import proofs.«01_k».proof.Proof.KerTile

@[expose] public section

set_option maxRecDepth 16384

noncomputable section

namespace Cert.KerValue

open Idealize.ShloMosaic Idealize.ShloMosaic.TcCoe Idealize.SL.Sem
open Idealize.ShloMosaic.Pipeline (Dat)
open Cert.KernelIdeal Cert.KernelIdeal.Gen Cert.KernelIdeal.Hand
open Cert.Spec (argX argS argW argV)

variable (m : (ℓ : Loc nD τ sig) → Buf (Elt Ideal) ℓ)

/-! ## The blocks a grid point reads -/

/-- Where every window stands at point `t`: row block `t / 20`, column tile `t % 20`. -/
theorem idx : ∀ t : Fin cfg0.N, win0_0.index t = ![t.val / 20, 0] ∧ win0_1.index t = ![t.val / 20, 0] ∧ win0_2.index t = ![0, t.val % 20]
    ∧ win0_3.index t = ![0, t.val % 20 + 20] ∧ win0_4.index t = ![0, t.val % 20] ∧ win0_5.index t = ![0, t.val % 20 + 20]
    ∧ win0_6.index t = ![t.val / 20, 0] ∧ win0_7.index t = ![t.val / 20, 0] ∧ t.val / 20 < 8 :=
  (by decide +kernel : ∀ t : Fin grid0.N, _)

theorem read0 (c : Dev nD) (t : Fin cfg0.N) (p : Fin 512) (k : Fin 6912) (r : Fin 4096) (hr : r.val = t.val / 20 * 512 + p.val) :
    (show FVec Ideal S512x6912 .fp8e4m3 from iblk m c 0 t) (ix2 p k) = argX (m ((c : Thread nD τ).loc main_arg0)) r k := by
  unfold argX
  blk_point [iblk, V, idx t]

theorem read1 (c : Dev nD) (t : Fin cfg0.N) (p : Fin 512) (r : Fin 4096) (hr : r.val = t.val / 20 * 512 + p.val) :
    (show FVec Ideal S512x1 .f32 from iblk m c 1 t) (ix2 p 0) = argS (m ((c : Thread nD τ).loc main_arg1)) r := by
  unfold argS
  blk_point [iblk, V, idx t]

theorem read2 (c : Dev nD) (t : Fin cfg0.N) (q : Fin 256) (k : Fin 6912) (d : Fin 5120) (hd : d.val = t.val % 20 * 256 + q.val) :
    (show FVec Ideal S6912x256 .fp8e4m3 from iblk m c 2 t) (ix2 k q)
    = argW (m ((c : Thread nD τ).loc main_arg2)) k ⟨d.val, by omega⟩ := by
  unfold argW
  blk_point [iblk, V, idx t]

theorem read3 (c : Dev nD) (t : Fin cfg0.N) (q : Fin 256) (k : Fin 6912) (d : Fin 5120) (hd : d.val = t.val % 20 * 256 + q.val) :
    (show FVec Ideal S6912x256 .fp8e4m3 from iblk m c 3 t) (ix2 k q)
    = argW (m ((c : Thread nD τ).loc main_arg2)) k ⟨5120 + d.val, by omega⟩ := by
  unfold argW
  blk_point [iblk, V, idx t]

theorem read4 (c : Dev nD) (t : Fin cfg0.N) (q : Fin 256) (d : Fin 5120) (hd : d.val = t.val % 20 * 256 + q.val) :
    (show FVec Ideal S1x256 .f32 from iblk m c 4 t) (ix2 0 q) = argV (m ((c : Thread nD τ).loc main_arg3)) ⟨d.val, by omega⟩ := by
  unfold argV
  blk_point [iblk, V, idx t]

theorem read5 (c : Dev nD) (t : Fin cfg0.N) (q : Fin 256) (d : Fin 5120) (hd : d.val = t.val % 20 * 256 + q.val) :
    (show FVec Ideal S1x256 .f32 from iblk m c 5 t) (ix2 0 q) = argV (m ((c : Thread nD τ).loc main_arg3)) ⟨5120 + d.val, by omega⟩ := by
  unfold argV
  blk_point [iblk, V, idx t]

/-! ## The tile and its row maxima -/

/-- A tile's entry, from what its blocks hold. -/
theorem tile_of_reads (X : Fin 4096 → Fin 6912 → EReal) (s : Fin 4096 → EReal) (W : Fin 6912 → Fin 10240 → EReal) (w : Fin 10240 → EReal)
    (x0 : FVec Ideal S512x6912 .fp8e4m3) (x1 : FVec Ideal S512x1 .f32) (x2 x3 : FVec Ideal S6912x256 .fp8e4m3)
    (x4 x5 : FVec Ideal S1x256 .f32) (p : Fin 512) (q : Fin 256) (r : Fin 4096) (d : Fin 5120)
    (h0 : ∀ k : Fin 6912, x0 (ix2 p k) = X r k) (h1 : x1 (ix2 p 0) = s r) (h2 : ∀ k : Fin 6912, x2 (ix2 k q) = W k ⟨d.val, by omega⟩)
    (h3 : ∀ k : Fin 6912, x3 (ix2 k q) = W k ⟨5120 + d.val, by omega⟩) (h4 : x4 (ix2 0 q) = w ⟨d.val, by omega⟩)
    (h5 : x5 (ix2 0 q) = w ⟨5120 + d.val, by omega⟩) :
    k0_pay37 (F := Ideal) x0 x1 x2 x3 x4 x5 (ix2 p q) = Spec.out X s W w r d := by
  rw [tile_at]
  simp only [h0, h1, h2, h3, h4, h5]
  rfl

/-- The output before quantisation, over the argument arrays. -/
abbrev outK (c : Dev nD) : Fin 4096 → Fin 5120 → EReal :=
  Spec.out (argX (m ((c : Thread nD τ).loc main_arg0))) (argS (m ((c : Thread nD τ).loc main_arg1)))
    (argW (m ((c : Thread nD τ).loc main_arg2))) (argV (m ((c : Thread nD τ).loc main_arg3)))

/-- The greatest magnitude of a token, over the argument arrays. -/
abbrev amaxK (c : Dev nD) : Fin 4096 → EReal :=
  Spec.amax (argX (m ((c : Thread nD τ).loc main_arg0))) (argS (m ((c : Thread nD τ).loc main_arg1)))
    (argW (m ((c : Thread nD τ).loc main_arg2))) (argV (m ((c : Thread nD τ).loc main_arg3)))

/-- The tile of point `t` at its entry `(p, q)`. -/
theorem tile_entry (c : Dev nD) (t : Fin cfg0.N) (p : Fin 512) (q : Fin 256) (r : Fin 4096) (d : Fin 5120)
    (hr : r.val = t.val / 20 * 512 + p.val) (hd : d.val = t.val % 20 * 256 + q.val) :
    k0_pay37 (F := Ideal) (iblk m c 0 t) (iblk m c 1 t) (iblk m c 2 t) (iblk m c 3 t) (iblk m c 4 t) (iblk m c 5 t) (ix2 p q) = outK m c r d :=
  tile_of_reads _ _ _ _ _ _ _ _ _ _ p q r d (fun k => read0 m c t p k r hr) (read1 m c t p r hr) (fun k => read2 m c t q k d hd)
    (fun k => read3 m c t q k d hd) (read4 m c t q d hd) (read5 m c t q d hd)

theorem pt_num (n : ℕ) (hn : n < 160) : (pt n).val = n := Nat.mod_eq_of_lt hn

/-- The plane stored at point `n`. -/
theorem plane_entry (c : Dev nD) (n : ℕ) (hn : n < 160) (p : Fin 512) (q : Fin 256) (r : Fin 4096) (d : Fin 5120)
    (hr : r.val = n / 20 * 512 + p.val) (hd : d.val = n % 20 * 256 + q.val) :
    tileAt (F := Ideal) m c n (ix3 0 p q) = outK m c r d := by
  unfold tileAt
  refine (plane_at _ _ _ _ _ _ p q).trans ?_
  exact tile_entry m c (pt n) p q r d (by rw [pt_num n hn]; exact hr) (by rw [pt_num n hn]; exact hd)

/-- The row maxima of the tile of point `n`. -/
theorem stepMax_entry (c : Dev nD) (n : ℕ) (hn : n < 160) (p : Fin 512) (r : Fin 4096) (hr : r.val = n / 20 * 512 + p.val) :
    stepMaxAt (F := Ideal) m c n (ix2 p 0)
      = Finset.univ.sup fun q : Fin 256 => Spec.mag (outK m c r ⟨n % 20 * 256 + q.val, by have := q.isLt; omega⟩) := by
  unfold stepMaxAt
  refine (stepMax_at _ _ _ _ _ _ p).trans ?_
  refine Finset.sup_congr rfl fun q _ => ?_
  rw [tile_entry m c (pt n) p q r ⟨n % 20 * 256 + q.val, by have := q.isLt; omega⟩ (by rw [pt_num n hn]; exact hr) (by rw [pt_num n hn])]

/-! ## The running maximum -/

/-- The supremum over the first `j` column tiles. -/
def front (f : Fin 5120 → EReal) (j : ℕ) : EReal := (Finset.univ.filter fun d : Fin 5120 => d.val < j * 256).sup f

theorem front_zero (f : Fin 5120 → EReal) : front f 0 = ⊥ := by
  unfold front
  rw [Finset.filter_false_of_mem (fun d _ => by omega)]
  exact Finset.sup_empty

/-- One tile more. -/
theorem front_succ (f : Fin 5120 → EReal) (j : ℕ) (hj : j < 20) :
    front f (j + 1) = max (front f j) (Finset.univ.sup fun q : Fin 256 => f ⟨j * 256 + q.val, by have := q.isLt; omega⟩) := by
  unfold front
  apply le_antisymm
  · refine Finset.sup_le fun d hd => ?_
    have hd' : d.val < (j + 1) * 256 := (Finset.mem_filter.mp hd).2
    by_cases h : d.val < j * 256
    · exact le_max_of_le_left (Finset.le_sup (f := f) (Finset.mem_filter.mpr ⟨Finset.mem_univ d, h⟩))
    · refine le_max_of_le_right ?_
      have e : d = ⟨j * 256 + (⟨d.val - j * 256, by omega⟩ : Fin 256).val, by have := d.isLt; simp only; omega⟩ :=
        Fin.ext (by simp only; omega)
      have := Finset.le_sup (f := fun q : Fin 256 => f ⟨j * 256 + q.val, by have := q.isLt; omega⟩)
        (Finset.mem_univ (⟨d.val - j * 256, by omega⟩ : Fin 256))
      refine le_trans (le_of_eq (congrArg f e)) this
  · refine max_le ?_ ?_
    · refine Finset.sup_le fun d hd => ?_
      have hd' : d.val < j * 256 := (Finset.mem_filter.mp hd).2
      exact Finset.le_sup (f := f) (Finset.mem_filter.mpr ⟨Finset.mem_univ d, by omega⟩)
    · refine Finset.sup_le fun q _ => ?_
      exact Finset.le_sup (f := f) (Finset.mem_filter.mpr ⟨Finset.mem_univ _, by have := q.isLt; simp only; omega⟩)

/-- All twenty tiles. -/
theorem front_all (f : Fin 5120 → EReal) : front f 20 = Finset.univ.sup f := by
  unfold front
  rw [Finset.filter_true_of_mem (fun d _ => by have := d.isLt; omega)]

/-- The running maximum after point `n` is the supremum over the column tiles up to this one. -/
theorem max_entry (c : Dev nD) (p : Fin 512) (n : ℕ) : ∀ (hn : n < 160) (r : Fin 4096) (hr : r.val = n / 20 * 512 + p.val),
    maxAt (F := Ideal) m c n (ix2 p 0) = front (fun d => Spec.mag (outK m c r d)) (n % 20 + 1) := by
  induction n with
  | zero =>
    intro hn r hr
    rw [front_succ _ _ (by omega)]
    refine (stepMax_entry m c 0 hn p r hr).trans ?_
    rw [show front _ (0 % 20) = ⊥ from front_zero _, max_eq_right bot_le]
  | succ n ih =>
    intro hn r hr
    rw [front_succ _ _ (by omega), ← stepMax_entry m c (n + 1) hn p r hr]
    by_cases h : (n + 1) % 20 = 0
    · rw [h, front_zero, max_eq_right bot_le]
      simp only [maxAt]
      rw [if_pos h]
    · have e1 : (n + 1) / 20 = n / 20 := by omega
      have e2 : (n + 1) % 20 = n % 20 + 1 := by omega
      rw [e2, ← ih (by omega) r (by rw [← e1]; exact hr)]
      simp only [maxAt]
      rw [if_neg h]
      rfl

/-- The running maximum at the last column tile is the token's greatest magnitude. -/
theorem max_last (c : Dev nD) (p : Fin 512) (n : ℕ) (hn : n < 160) (hl : n % 20 = 19) (r : Fin 4096) (hr : r.val = n / 20 * 512 + p.val) :
    maxAt (F := Ideal) m c n (ix2 p 0) = amaxK m c r := by
  rw [max_entry m c p n hn r hr, hl, front_all]
  rfl

/-! ## The result arrays -/

/-- A scale stored at a flushing point. -/
theorem scale_entry (c : Dev nD) (p : Fin 512) (n : ℕ) (hn : n < 160) (hl : n % 20 = 19) (r : Fin 4096) (hr : r.val = n / 20 * 512 + p.val) :
    scalesAt (F := Ideal) m c n (ix2 p 0) = Spec.scale (argX (m ((c : Thread nD τ).loc main_arg0))) (argS (m ((c : Thread nD τ).loc main_arg1)))
        (argW (m ((c : Thread nD τ).loc main_arg2))) (argV (m ((c : Thread nD τ).loc main_arg3))) r := by
  unfold scalesAt
  rw [scale_eq]
  simp only
  rw [max_last m c p n hn hl r hr]
  exact (Scale.agree _ (Spec.amax_nonneg _ _ _ _ r)).1

/-- A code stored at a flushing point. -/
theorem code_entry (c : Dev nD) (p : Fin 512) (b : Fin 20) (q : Fin 256) (n : ℕ) (hn : n < 160) (hl : n % 20 = 19) (r : Fin 4096) (d : Fin 5120)
    (hr : r.val = n / 20 * 512 + p.val) (hd : d.val = b.val * 256 + q.val) :
    k0_pay3 (F := Ideal) (invOf (maxAt m c n)) (planesAt m c n b) (ix2 p q)
      = Spec.code (argX (m ((c : Thread nD τ).loc main_arg0))) (argS (m ((c : Thread nD τ).loc main_arg1)))
        (argW (m ((c : Thread nD τ).loc main_arg2))) (argV (m ((c : Thread nD τ).loc main_arg3))) r d := by
  rw [code_at, inv_eq]
  simp only
  rw [max_last m c p n hn hl r hr, (Scale.agree _ (Spec.amax_nonneg _ _ _ _ r)).2]
  unfold planesAt
  have hb := b.isLt
  rw [plane_entry m c (20 * (n / 20) + b.val) (by omega) p q r d (by rw [hr]; congr 2; omega) (by rw [hd]; congr 2; omega)]
  rfl
/-- The block of codes a flushing point leaves. -/
theorem codes_block (c : Dev nD) (y : S512x5120.Idx) (n : ℕ) (hn : n < 160) (hl : n % 20 = 19) (r : Fin 4096) (d : Fin 5120)
    (hr : r.val = n / 20 * 512 + (y 0).val) (hd : d.val = (y 1).val) :
    codesAt (F := Ideal) m c n y = Spec.code (argX (m ((c : Thread nD τ).loc main_arg0))) (argS (m ((c : Thread nD τ).loc main_arg1)))
        (argW (m ((c : Thread nD τ).loc main_arg2))) (argV (m ((c : Thread nD τ).loc main_arg3))) r d := by
  have h0 : (y 0).val < 512 := (y 0).isLt
  have h1 : (y 1).val < 5120 := (y 1).isLt
  unfold codesAt
  rw [codesOf_emb (maxAt m c n) (planesAt m c n) ⟨(y 1).val / 256, by omega⟩ y
    (ix2 (⟨(y 0).val, h0⟩ : Fin 512) (⟨(y 1).val % 256, Nat.mod_lt _ (by decide)⟩ : Fin 256)) rfl (Nat.div_add_mod _ _).symm]
  exact code_entry m c ⟨(y 0).val, h0⟩ ⟨(y 1).val / 256, by omega⟩ ⟨(y 1).val % 256, Nat.mod_lt _ (by decide)⟩ n hn hl r d hr
    (by rw [hd]; exact (Nat.div_add_mod' _ _).symm)

/-- The block of scales a flushing point leaves. -/
theorem scales_block (c : Dev nD) (y : S512x1.Idx) (n : ℕ) (hn : n < 160) (hl : n % 20 = 19) (r : Fin 4096)
    (hr : r.val = n / 20 * 512 + (y 0).val) :
    scalesAt (F := Ideal) m c n y = Spec.scale (argX (m ((c : Thread nD τ).loc main_arg0))) (argS (m ((c : Thread nD τ).loc main_arg1)))
        (argW (m ((c : Thread nD τ).loc main_arg2))) (argV (m ((c : Thread nD τ).loc main_arg3))) r := by
  have e : y = ix2 (y 0) (0 : Fin 1) := by
    refine (eq_ix2 y).trans ?_
    congr 1
    exact Subsingleton.elim _ _
  exact (congrArg _ e).trans (scale_entry m c (y 0) n hn hl r hr)

/-- The codes array after the grid. -/
theorem codes_final (c : Dev nD) : (dats (F := Ideal) m 0 c).arrAt 6 (cfgs 0).N
    = (fun i : S4096x5120.Idx => Spec.code (argX (m ((c : Thread nD τ).loc main_arg0))) (argS (m ((c : Thread nD τ).loc main_arg1)))
        (argW (m ((c : Thread nD τ).loc main_arg2))) (argV (m ((c : Thread nD τ).loc main_arg3))) (i 0) (i 1)) := by
  refine (dats m 0 c).arrAt_eq_of_covers 6 _ (by decide +kernel) fun t hf y => ?_
  blk_simp
  rw [after0_6]
  refine codes_block m c y t.val (lt_of_lt_of_eq t.isLt (show cfg0.N = 160 from N_0)) ((flush0_6 t).mp hf) _ _ ?_ ?_
  · blk_simp [idx t]
  · blk_simp [idx t]

/-- The scales array after the grid. -/
theorem scales_final (c : Dev nD) : (dats (F := Ideal) m 0 c).arrAt 7 (cfgs 0).N
    = (fun i : S4096x1.Idx => Spec.scale (argX (m ((c : Thread nD τ).loc main_arg0))) (argS (m ((c : Thread nD τ).loc main_arg1)))
        (argW (m ((c : Thread nD τ).loc main_arg2))) (argV (m ((c : Thread nD τ).loc main_arg3))) (i 0)) := by
  refine (dats m 0 c).arrAt_eq_of_covers 7 _ (by decide +kernel) fun t hf y => ?_
  blk_simp
  rw [after0_7]
  refine scales_block m c y t.val (lt_of_lt_of_eq t.isLt (show cfg0.N = 160 from N_0)) ((flush0_7 t).mp hf) _ ?_
  blk_simp [idx t]

end Cert.KerValue

end
-- ==== Proof.RefValue.lean ====
/- What the reference computes, entry by entry. -/
module

public import proofs.«01_k».proof.Proof.Spec
public import proofs.«01_k».proof.Proof.Gen.ReferenceIdeal.Frame

@[expose] public section

set_option maxRecDepth 16384

noncomputable section

namespace Cert.RefValue

open Idealize.ShloMosaic Idealize.ShloMosaic.TcCoe Idealize.SL.Sem
open Idealize.ShloMosaic.Pipeline (Dat)
open Cert.ReferenceIdeal Cert.ReferenceIdeal.Gen
open Cert.Spec (argX argS argW argV)

/-! ## The payloads at an entry -/

section Payloads

variable (x : FVec Ideal S1x4096x6912 .fp8e4m3) (xs : FVec Ideal S1x4096x1 .f32) (wt : FVec Ideal S6912x10240 .fp8e4m3)
  (ws : FVec Ideal S1x10240 .f32)

/-- The output before quantisation. -/
theorem out_at (r : Fin 4096) (c : Fin 5120) :
    k0_pay3 (F := Ideal) x wt xs ws (ix2 r c) = Spec.out (argX x) (argS xs) (argW wt) (argV ws) r c := by
  pointwise [k0_pay3, Spec.out, Spec.gate, Spec.up, Spec.hid, argX, argS, argW, argV]

/-- The maximum along a row. -/
theorem rowMax (v : FVec Ideal S4096x5120 .f32) (r : Fin 4096) :
    shapeCast S4096x1 (multiReduction .maximumf [1] S4096 v 0xFF800000#32 reduces_S4096x5120_S4096 (.inl rfl) rfl)
      shapeCasts_S4096_S4096x1 (ix2 r 0) = Finset.univ.sup fun c : Fin 5120 => v (ix2 r c) := by
  rw [← Spec.fold_max]
  pointwise

/-- The exponents, as a function of the row maxima. -/
def expVec (a : FVec Ideal S4096x1 .f32) : FVec Ideal S4096x1 .f32 :=
  select (cmpf .oeq a (broadcast S4096x1 (Scalar.ofBits .f32 0x00000000#32))) (broadcast S4096x1 (Scalar.ofBits .f32 0x00000000#32))
    (select (ori (cmpf .olt (mulf a (broadcast S4096x1 (Scalar.ofBits .f32 0x3B124925#32))) (broadcast S4096x1 (Scalar.ofBits .f32 0x00800000#32)))
        (cmpf .oeq (mulf a (broadcast S4096x1 (Scalar.ofBits .f32 0x3B124925#32))) (broadcast S4096x1 (Scalar.ofBits .f32 0x7F800000#32))))
      (broadcast S4096x1 (Scalar.ofBits .f32 0x00000000#32))
      (addf (floor (divf (log (mulf a (broadcast S4096x1 (Scalar.ofBits .f32 0x3B124925#32)))) (log (broadcast S4096x1 (Scalar.ofBits .f32 0x40000000#32)))))
        (broadcast S4096x1 (Scalar.ofBits .f32 0x3F800000#32))))

theorem expVec_at (a : FVec Ideal S4096x1 .f32) (i : S4096x1.Idx) : expVec a i = Scale.expoR (a i) := rfl

/-- The exponents, of the row maxima. -/
theorem exp_eq :
    k0_pay4 (F := Ideal) x wt xs ws = expVec
      (shapeCast S4096x1 (multiReduction .maximumf [1] S4096 (absf (k0_pay3 (F := Ideal) x wt xs ws)) 0xFF800000#32
        reduces_S4096x5120_S4096 (.inl rfl) rfl) shapeCasts_S4096_S4096x1) := by
  unfold k0_pay4 expVec
  rfl

/-- The exponent. -/
theorem exp_at (r : Fin 4096) :
    k0_pay4 (F := Ideal) x wt xs ws (ix2 r 0) = Scale.expoR (Spec.amax (argX x) (argS xs) (argW wt) (argV ws) r) := by
  rw [exp_eq, expVec_at, rowMax]
  congr 1
  refine Finset.sup_congr rfl fun c _ => ?_
  show max (k0_pay3 (F := Ideal) x wt xs ws (ix2 r c)) (-(k0_pay3 (F := Ideal) x wt xs ws (ix2 r c))) = _
  rw [out_at]
  rfl

/-- The scale, of the exponent. -/
theorem scale_at (e : FVec Ideal S4096x1 .f32) (r : Fin 4096) :
    k0_pay1 (F := Ideal) e (Scalar.ofBits .f32 0x42FE0000#32) (ix2 r 0) = Scale.powR (e (ix2 r 0)) := rfl

/-- A value per row, read along the row. -/
theorem perRow (v : FVec Ideal S4096x1 .f32) (r : Fin 4096) (c : Fin 5120) :
    broadcastTo S4096x5120 v broadcasts_S4096x1_S4096x5120 (ix2 r c) = v (ix2 r 0) := by pointwise

/-- The codes, of the output and the exponent. -/
theorem code_at (y : FVec Ideal S4096x5120 .f32) (e : FVec Ideal S4096x1 .f32) (r : Fin 4096) (c : Fin 5120) :
    k0_pay2 (F := Ideal) y e (ix2 r c) = Spec.clip (y (ix2 r c)) (Scale.powR (Ideal.ofBits .f32 0x00000000#32 - e (ix2 r 0))) := by
  have h := perRow (fun i => Scale.powR (Ideal.ofBits .f32 0x00000000#32 - e i)) r c
  refine Eq.trans ?_ (congrArg (Spec.clip (y (ix2 r c))) h)
  rfl

end Payloads

/-! ## The result arrays -/

variable (m : (ℓ : Loc nD τ sig) → Buf (Elt Ideal) ℓ)

theorem idx : ∀ t : Fin cfg0.N, win0_0.index t = ![0, 0, 0] ∧ win0_1.index t = ![0, 0, 0] ∧ win0_2.index t = ![0, 0]
    ∧ win0_3.index t = ![0, 0] ∧ win0_4.index t = ![0, 0] ∧ win0_5.index t = ![0, 0] := (by decide +kernel : ∀ t : Fin grid0.N, _)

theorem iblk0 (c : Dev nD) : iblk m c 0 t0_0 = m ((c : Thread nD τ).loc main_arg0) := by blk_ext! [iblk, V, idx t0_0]
theorem iblk1 (c : Dev nD) : iblk m c 1 t0_0 = m ((c : Thread nD τ).loc main_arg1) := by blk_ext! [iblk, V, idx t0_0]
theorem iblk2 (c : Dev nD) : iblk m c 2 t0_0 = m ((c : Thread nD τ).loc main_arg2) := by blk_ext! [iblk, V, idx t0_0]
theorem iblk3 (c : Dev nD) : iblk m c 3 t0_0 = m ((c : Thread nD τ).loc main_arg3) := by blk_ext! [iblk, V, idx t0_0]

theorem pay5_eq (x0 x1 x2 x3) : k0_pay5 (F := Ideal) x0 x1 x2 x3 = k0_pay4 x0 x2 x1 x3 := by
  unfold k0_pay5
  frame_out

/-- The codes array, as the payload over the arguments. -/
theorem codes_payload (c : Dev nD) : (dats m 0 c).arrAt 4 (cfgs 0).N
    = k0_pay2 (F := Ideal) (k0_pay3 (m ((c : Thread nD τ).loc main_arg0)) (m ((c : Thread nD τ).loc main_arg2)) (m ((c : Thread nD τ).loc main_arg1)) (m ((c : Thread nD τ).loc main_arg3)))
      (k0_pay4 (m ((c : Thread nD τ).loc main_arg0)) (m ((c : Thread nD τ).loc main_arg2)) (m ((c : Thread nD τ).loc main_arg1)) (m ((c : Thread nD τ).loc main_arg3))) := by
  refine (dats m 0 c).arrAt_eq_of_after_last 4 t0_0 (by decide +kernel) _ fun j => ?_
  blk_simp
  rw [after0_4]
  frame_out
  rw [pay5_eq, iblk0, iblk1, iblk2, iblk3]

/-- The scales array, as the payload over the arguments. -/
theorem scales_payload (c : Dev nD) : (dats m 0 c).arrAt 5 (cfgs 0).N
    = k0_pay1 (F := Ideal) (k0_pay4 (m ((c : Thread nD τ).loc main_arg0)) (m ((c : Thread nD τ).loc main_arg2)) (m ((c : Thread nD τ).loc main_arg1)) (m ((c : Thread nD τ).loc main_arg3))) (Scalar.ofBits .f32 0x42FE0000#32) := by
  refine (dats m 0 c).arrAt_eq_of_after_last 5 t0_0 (by decide +kernel) _ fun j => ?_
  blk_simp
  rw [after0_5]
  frame_out
  rw [pay5_eq, iblk0, iblk1, iblk2, iblk3]

section Entries

variable (x : FVec Ideal S1x4096x6912 .fp8e4m3) (xs : FVec Ideal S1x4096x1 .f32) (wt : FVec Ideal S6912x10240 .fp8e4m3)
  (ws : FVec Ideal S1x10240 .f32)

/-- A code, from the arguments. -/
theorem code_entry (r : Fin 4096) (q : Fin 5120) :
    k0_pay2 (F := Ideal) (k0_pay3 x wt xs ws) (k0_pay4 x wt xs ws) (ix2 r q)
      = Spec.code (argX x) (argS xs) (argW wt) (argV ws) r q := by
  rw [code_at, out_at, exp_at]
  rfl

/-- A scale, from the arguments. -/
theorem scale_entry (r : Fin 4096) :
    k0_pay1 (F := Ideal) (k0_pay4 x wt xs ws) (Scalar.ofBits .f32 0x42FE0000#32) (ix2 r 0)
      = Spec.scale (argX x) (argS xs) (argW wt) (argV ws) r := by
  rw [scale_at, exp_at]
  rfl

end Entries

/-- The codes array, entry by entry. -/
theorem codes_final (c : Dev nD) : (dats m 0 c).arrAt 4 (cfgs 0).N
    = (fun i : S4096x5120.Idx => Spec.code (argX (m ((c : Thread nD τ).loc main_arg0))) (argS (m ((c : Thread nD τ).loc main_arg1)))
        (argW (m ((c : Thread nD τ).loc main_arg2))) (argV (m ((c : Thread nD τ).loc main_arg3))) (i 0) (i 1)) := by
  rw [codes_payload]
  funext i
  exact (congrArg _ (eq_ix2 i)).trans (code_entry _ _ _ _ (i 0) (i 1))

/-- The scales array, entry by entry. -/
theorem scales_final (c : Dev nD) : (dats m 0 c).arrAt 5 (cfgs 0).N
    = (fun i : S4096x1.Idx => Spec.scale (argX (m ((c : Thread nD τ).loc main_arg0))) (argS (m ((c : Thread nD τ).loc main_arg1)))
        (argW (m ((c : Thread nD τ).loc main_arg2))) (argV (m ((c : Thread nD τ).loc main_arg3))) (i 0)) := by
  rw [scales_payload]
  funext i
  have e : i = ix2 (i 0) (0 : Fin 1) := by
    refine (eq_ix2 i).trans ?_
    congr 1
    exact Subsingleton.elim _ _
  exact (congrArg _ e).trans (scale_entry _ _ _ _ (i 0))

end Cert.RefValue

end
-- ==== Proof.KernelIdeal.RunA.lean ====
/- The kernel body at a point before the last column tile of a row block. -/
module

public import proofs.«01_k».proof.Proof.KernelIdeal.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point before the last column tile, on any memrefs: the six inputs come back as they were, the two
    outputs are untouched, and the two scratch arrays hold what they held with the listed stores over it. -/
noncomputable def runA (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : ¬lastTile i)
    (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) :
    Σ' (LS0 : List (View.Piece (Elt F) S20x512x256 .f32)), { LS1 : List (View.Piece (Elt F) S512x1 .f32) //
      ∀ (xi6 : Vec F S512x5120 .fp8e4m3) (xi7 : Vec F S512x1 .f32) (xs0 : Vec F S20x512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_swiglu_requant i arg2 harg2 arg3 harg3 arg4 harg4 arg5 harg5 arg6 harg6 arg7 harg7 arg8 harg8 arg9 harg9 arg10 harg10 arg11 harg11) K } := by
  refine ⟨?_, ?_, fun xi6 xi7 xs0 E K => ?run⟩
  case run =>
    simp only [cc0_swiglu_requant_eq_skeleton]; unfold cc0_swiglu_requant_skel
    simp only [k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.KernelIdeal.Hand

end
-- ==== Proof.KernelIdeal.RunB.lean ====
/- The kernel body at the last column tile of a row block. -/
module

public import proofs.«01_k».proof.Proof.KernelIdeal.Runs

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last column tile of a row block, on any memrefs, when the planes 0 … 18 of the staging array hold
    `ps0` … `ps18`: the six inputs come back as they were, the two outputs and the two scratch arrays hold the listed
    stores. -/
noncomputable def runB (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : lastTile i) (hl0 : k0_off1 i = ![19, 0, 0])
    (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) (ps0 : Vec F S1x512x256 .f32) (ps1 : Vec F S1x512x256 .f32) (ps2 : Vec F S1x512x256 .f32) (ps3 : Vec F S1x512x256 .f32) (ps4 : Vec F S1x512x256 .f32) (ps5 : Vec F S1x512x256 .f32) (ps6 : Vec F S1x512x256 .f32) (ps7 : Vec F S1x512x256 .f32) (ps8 : Vec F S1x512x256 .f32) (ps9 : Vec F S1x512x256 .f32) (ps10 : Vec F S1x512x256 .f32) (ps11 : Vec F S1x512x256 .f32) (ps12 : Vec F S1x512x256 .f32) (ps13 : Vec F S1x512x256 .f32) (ps14 : Vec F S1x512x256 .f32) (ps15 : Vec F S1x512x256 .f32) (ps16 : Vec F S1x512x256 .f32) (ps17 : Vec F S1x512x256 .f32) (ps18 : Vec F S1x512x256 .f32) :
    Σ' (L6 : List (View.Piece (Elt F) S512x5120 .fp8e4m3)), Σ' (L7 : List (View.Piece (Elt F) S512x1 .f32)), Σ' (LS0 : List (View.Piece (Elt F) S20x512x256 .f32)), { LS1 : List (View.Piece (Elt F) S512x1 .f32) //
      ∀ (xs0 : Vec F S20x512x256 .f32) (hps0 : View.readAt (Elt F) arg10.view (Rect.unit (s := S20x512x256) ![0, 0, 0] S1x512x256.size inb_S20x512x256_S1x512x256_0_0_0).toLoadRect (harg10.unread xs0) = ps0) (hps1 : View.readAt (Elt F) arg10.view (Rect.unit (s := S20x512x256) ![1, 0, 0] S1x512x256.size inb_S20x512x256_S1x512x256_1_0_0).toLoadRect (harg10.unread xs0) = ps1) (hps2 : View.readAt (Elt F) arg10.view (Rect.unit (s := S20x512x256) ![2, 0, 0] S1x512x256.size inb_S20x512x256_S1x512x256_2_0_0).toLoadRect (harg10.unread xs0) = ps2) (hps3 : View.readAt (Elt F) arg10.view (Rect.unit (s := S20x512x256) ![3, 0, 0] S1x512x256.size inb_S20x512x256_S1x512x256_3_0_0).toLoadRect (harg10.unread xs0) = ps3) (hps4 : View.readAt (Elt F) arg10.view (Rect.unit (s := S20x512x256) ![4, 0, 0] S1x512x256.size inb_S20x512x256_S1x512x256_4_0_0).toLoadRect (harg10.unread xs0) = ps4) (hps5 : View.readAt (Elt F) arg10.view (Rect.unit (s := S20x512x256) ![5, 0, 0] S1x512x256.size inb_S20x512x256_S1x512x256_5_0_0).toLoadRect (harg10.unread xs0) = ps5) (hps6 : View.readAt (Elt F) arg10.view (Rect.unit (s := S20x512x256) ![6, 0, 0] S1x512x256.size inb_S20x512x256_S1x512x256_6_0_0).toLoadRect (harg10.unread xs0) = ps6) (hps7 : View.readAt (Elt F) arg10.view (Rect.unit (s := S20x512x256) ![7, 0, 0] S1x512x256.size inb_S20x512x256_S1x512x256_7_0_0).toLoadRect (harg10.unread xs0) = ps7) (hps8 : View.readAt (Elt F) arg10.view (Rect.unit (s := S20x512x256) ![8, 0, 0] S1x512x256.size inb_S20x512x256_S1x512x256_8_0_0).toLoadRect (harg10.unread xs0) = ps8) (hps9 : View.readAt (Elt F) arg10.view (Rect.unit (s := S20x512x256) ![9, 0, 0] S1x512x256.size inb_S20x512x256_S1x512x256_9_0_0).toLoadRect (harg10.unread xs0) = ps9) (hps10 : View.readAt (Elt F) arg10.view (Rect.unit (s := S20x512x256) ![10, 0, 0] S1x512x256.size inb_S20x512x256_S1x512x256_10_0_0).toLoadRect (harg10.unread xs0) = ps10) (hps11 : View.readAt (Elt F) arg10.view (Rect.unit (s := S20x512x256) ![11, 0, 0] S1x512x256.size inb_S20x512x256_S1x512x256_11_0_0).toLoadRect (harg10.unread xs0) = ps11) (hps12 : View.readAt (Elt F) arg10.view (Rect.unit (s := S20x512x256) ![12, 0, 0] S1x512x256.size inb_S20x512x256_S1x512x256_12_0_0).toLoadRect (harg10.unread xs0) = ps12) (hps13 : View.readAt (Elt F) arg10.view (Rect.unit (s := S20x512x256) ![13, 0, 0] S1x512x256.size inb_S20x512x256_S1x512x256_13_0_0).toLoadRect (harg10.unread xs0) = ps13) (hps14 : View.readAt (Elt F) arg10.view (Rect.unit (s := S20x512x256) ![14, 0, 0] S1x512x256.size inb_S20x512x256_S1x512x256_14_0_0).toLoadRect (harg10.unread xs0) = ps14) (hps15 : View.readAt (Elt F) arg10.view (Rect.unit (s := S20x512x256) ![15, 0, 0] S1x512x256.size inb_S20x512x256_S1x512x256_15_0_0).toLoadRect (harg10.unread xs0) = ps15) (hps16 : View.readAt (Elt F) arg10.view (Rect.unit (s := S20x512x256) ![16, 0, 0] S1x512x256.size inb_S20x512x256_S1x512x256_16_0_0).toLoadRect (harg10.unread xs0) = ps16) (hps17 : View.readAt (Elt F) arg10.view (Rect.unit (s := S20x512x256) ![17, 0, 0] S1x512x256.size inb_S20x512x256_S1x512x256_17_0_0).toLoadRect (harg10.unread xs0) = ps17) (hps18 : View.readAt (Elt F) arg10.view (Rect.unit (s := S20x512x256) ![18, 0, 0] S1x512x256.size inb_S20x512x256_S1x512x256_18_0_0).toLoadRect (harg10.unread xs0) = ps18) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_swiglu_requant i arg2 harg2 arg3 harg3 arg4 harg4 arg5 harg5 arg6 harg6 arg7 harg7 arg8 harg8 arg9 harg9 arg10 harg10 arg11 harg11) K } := by
  refine ⟨?_, ?_, ?_, ?_, fun xs0 hps0 hps1 hps2 hps3 hps4 hps5 hps6 hps7 hps8 hps9 hps10 hps11 hps12 hps13 hps14 hps15 hps16 hps17 hps18 E K => ?run⟩
  case run =>
    letI : ClosedOff (k0_off1 i) := ⟨![19, 0, 0], hl0⟩
    simp only [cc0_swiglu_requant_eq_skeleton]; unfold cc0_swiglu_requant_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexact HS0
    iexists _; iexact HS1

end Cert.KernelIdeal.Hand

end
-- ==== Proof.KernelIdeal.Stores.lean ====
/- What the stores of each case of the kernel body are, in terms of the functions of `Tile`. -/
module

public import proofs.«01_k».proof.Proof.KernelIdeal.Tile
public import proofs.«01_k».proof.Proof.KernelIdeal.RunA
public import proofs.«01_k».proof.Proof.KernelIdeal.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of a point before the last column tile -/

theorem runA_tile (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : ¬lastTile i) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) :
    (runA c i arg2 harg2 arg3 harg3 arg4 harg4 arg5 harg5 arg6 harg6 arg7 harg7 arg8 harg8 arg9 harg9 arg10 harg10 arg11 harg11 hc0 x0 x1 x2 x3 x4 x5 xs1).1 = [⟨Rect.unit (k0_off1 i) S1x512x256.size (k0_off1_inb i), tileOf x0 x1 x2 x3 x4 x5⟩] := by
  dsimp only [runA]
  rw [readAt_full arg2 harg2, readAt_full arg3 harg3, readAt_full arg4 harg4, readAt_full arg5 harg5, readAt_full arg6 harg6, readAt_full arg7 harg7]

theorem runA_max (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : ¬lastTile i) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) :
    (runA c i arg2 harg2 arg3 harg3 arg4 harg4 arg5 harg5 arg6 harg6 arg7 harg7 arg8 harg8 arg9 harg9 arg10 harg10 arg11 harg11 hc0 x0 x1 x2 x3 x4 x5 xs1).2.1 = [⟨Rect.unit ![0, 0] S512x1.size inb_S512x1_S512x1_0_0, accMax i x0 x1 x2 x3 x4 x5 xs1⟩] := by
  dsimp only [runA]
  unfold runA.sl.r runA.sl.v34
  rw [readAt_full arg2 harg2, readAt_full arg3 harg3, readAt_full arg4 harg4, readAt_full arg5 harg5, readAt_full arg6 harg6, readAt_full arg7 harg7, readAt_full arg11 harg11]

/-! ## The stores of the last column tile -/

theorem runB_tile (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : lastTile i) (hl0 : k0_off1 i = ![19, 0, 0]) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) (ps : Fin 20 → Vec F S1x512x256 .f32) :
    (runB c i arg2 harg2 arg3 harg3 arg4 harg4 arg5 harg5 arg6 harg6 arg7 harg7 arg8 harg8 arg9 harg9 arg10 harg10 arg11 harg11 hc0 hl0 x0 x1 x2 x3 x4 x5 xs1 (ps 0) (ps 1) (ps 2) (ps 3) (ps 4) (ps 5) (ps 6) (ps 7) (ps 8) (ps 9) (ps 10) (ps 11) (ps 12) (ps 13) (ps 14) (ps 15) (ps 16) (ps 17) (ps 18)).2.2.1 = [⟨Rect.unit (k0_off1 i) S1x512x256.size (k0_off1_inb i), tileOf x0 x1 x2 x3 x4 x5⟩] := by
  dsimp only [runB]
  unfold runB.sl.HS0_1
  rw [readAt_full arg2 harg2, readAt_full arg3 harg3, readAt_full arg4 harg4, readAt_full arg5 harg5, readAt_full arg6 harg6, readAt_full arg7 harg7]

theorem runB_max (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : lastTile i) (hl0 : k0_off1 i = ![19, 0, 0]) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) (ps : Fin 20 → Vec F S1x512x256 .f32) :
    (runB c i arg2 harg2 arg3 harg3 arg4 harg4 arg5 harg5 arg6 harg6 arg7 harg7 arg8 harg8 arg9 harg9 arg10 harg10 arg11 harg11 hc0 hl0 x0 x1 x2 x3 x4 x5 xs1 (ps 0) (ps 1) (ps 2) (ps 3) (ps 4) (ps 5) (ps 6) (ps 7) (ps 8) (ps 9) (ps 10) (ps 11) (ps 12) (ps 13) (ps 14) (ps 15) (ps 16) (ps 17) (ps 18)).2.2.2.1 = [⟨Rect.unit ![0, 0] S512x1.size inb_S512x1_S512x1_0_0, accMax i x0 x1 x2 x3 x4 x5 xs1⟩] := by
  dsimp only [runB]
  unfold runB.sl.HS1_1
  try unfold runB.sl.r
  try unfold runB.sl.v34
  rw [readAt_full arg2 harg2, readAt_full arg3 harg3, readAt_full arg4 harg4, readAt_full arg5 harg5, readAt_full arg6 harg6, readAt_full arg7 harg7, readAt_full arg11 harg11]

/-- The row maxima the last column tile reads back are the ones it has just stored. -/
theorem runB_amax (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg11 : Memref sig .tc .vmem S512x1 .f32) (harg11 : arg11.IsWhole) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) :
    runB.sl.v44 c i arg2 harg2 arg3 harg3 arg4 harg4 arg5 harg5 arg6 harg6 arg7 harg7 arg11 harg11 x0 x1 x2 x3 x4 x5 xs1 = accMax i x0 x1 x2 x3 x4 x5 xs1 := by
  unfold runB.sl.v44 runB.sl.HS1_1
  try unfold runB.sl.r
  try unfold runB.sl.v34
  rw [readAt_full arg2 harg2, readAt_full arg3 harg3, readAt_full arg4 harg4, readAt_full arg5 harg5, readAt_full arg6 harg6, readAt_full arg7 harg7, readAt_full arg11 harg11]
  exact View.readCov_cons_toLoadRect _ _ _ _

theorem runB_inv (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg11 : Memref sig .tc .vmem S512x1 .f32) (harg11 : arg11.IsWhole) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) :
    runB.sl.r_3 c i arg2 harg2 arg3 harg3 arg4 harg4 arg5 harg5 arg6 harg6 arg7 harg7 arg11 harg11 x0 x1 x2 x3 x4 x5 xs1 = fieldOf (accMax i x0 x1 x2 x3 x4 x5 xs1) := by
  unfold runB.sl.r_3 runB.sl.r_2 runB.sl.r_1
  rw [runB_amax]

theorem runB_plane19 (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg10 : Memref sig .tc .vmem S20x512x256 .f32) (harg10 : arg10.IsWhole) (hl0 : k0_off1 i = ![19, 0, 0]) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) :
    runB.sl.v339 c i arg2 harg2 arg3 harg3 arg4 harg4 arg5 harg5 arg6 harg6 arg7 harg7 arg10 x0 x1 x2 x3 x4 x5 = tileOf x0 x1 x2 x3 x4 x5 := by
  unfold runB.sl.v339 runB.sl.HS0_1
  rw [readAt_full arg2 harg2, readAt_full arg3 harg3, readAt_full arg4 harg4, readAt_full arg5 harg5, readAt_full arg6 harg6, readAt_full arg7 harg7]
  have key : ∀ (off : Fin 3 → Nat) (h : off = ![19, 0, 0]) (inb : ∀ a, off a + S1x512x256.size a ≤ S20x512x256.size a)
      (w : Vec F S1x512x256 .f32),
      arg10.view.readCov [(⟨Rect.unit (s := S20x512x256) off S1x512x256.size inb, w⟩ : View.Piece (Elt F) S20x512x256 .f32)]
        (Rect.unit (s := S20x512x256) ![19, 0, 0] S1x512x256.size inb_S20x512x256_S1x512x256_19_0_0).toLoadRect = w := by
    intro off h inb w
    subst h
    exact View.readCov_cons_toLoadRect _ _ _ _
  exact key _ hl0 _ _

theorem runB_scale (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : lastTile i) (hl0 : k0_off1 i = ![19, 0, 0]) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) (ps : Fin 20 → Vec F S1x512x256 .f32) :
    (runB c i arg2 harg2 arg3 harg3 arg4 harg4 arg5 harg5 arg6 harg6 arg7 harg7 arg8 harg8 arg9 harg9 arg10 harg10 arg11 harg11 hc0 hl0 x0 x1 x2 x3 x4 x5 xs1 (ps 0) (ps 1) (ps 2) (ps 3) (ps 4) (ps 5) (ps 6) (ps 7) (ps 8) (ps 9) (ps 10) (ps 11) (ps 12) (ps 13) (ps 14) (ps 15) (ps 16) (ps 17) (ps 18)).2.1 = [⟨Rect.unit ![0, 0] S512x1.size inb_S512x1_S512x1_0_0, scaleOf (accMax i x0 x1 x2 x3 x4 x5 xs1)⟩] := by
  dsimp only [runB]
  unfold runB.sl.r_4 runB.sl.r_2 runB.sl.r_1
  rw [runB_amax]

/-- The twenty stores of the codes cover the block. -/
theorem runB_cover (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : lastTile i) (hl0 : k0_off1 i = ![19, 0, 0]) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) (ps : Fin 20 → Vec F S1x512x256 .f32) (y : S512x5120.Idx) : ∃ pc ∈ (runB c i arg2 harg2 arg3 harg3 arg4 harg4 arg5 harg5 arg6 harg6 arg7 harg7 arg8 harg8 arg9 harg9 arg10 harg10 arg11 harg11 hc0 hl0 x0 x1 x2 x3 x4 x5 xs1 (ps 0) (ps 1) (ps 2) (ps 3) (ps 4) (ps 5) (ps 6) (ps 7) (ps 8) (ps 9) (ps 10) (ps 11) (ps 12) (ps 13) (ps 14) (ps 15) (ps 16) (ps 17) (ps 18)).1, y ∈ pc.1.set :=
  View.cover_of_tiledL (runB c i arg2 harg2 arg3 harg3 arg4 harg4 arg5 harg5 arg6 harg6 arg7 harg7 arg8 harg8 arg9 harg9 arg10 harg10 arg11 harg11 hc0 hl0 x0 x1 x2 x3 x4 x5 xs1 (ps 0) (ps 1) (ps 2) (ps 3) (ps 4) (ps 5) (ps 6) (ps 7) (ps 8) (ps 9) (ps 10) (ps 11) (ps 12) (ps 13) (ps 14) (ps 15) (ps 16) (ps 17) (ps 18)).1 S512x256.size (by sl_kernel_rfl) y

set_option maxHeartbeats 2000000 in
/-- The twenty stores of the codes leave `codesOf` of the row maxima and the planes, whatever the block held before. -/
theorem runB_codes (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : lastTile i) (hl0 : k0_off1 i = ![19, 0, 0]) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) (ps : Fin 20 → Vec F S1x512x256 .f32) (h19 : ps 19 = tileOf x0 x1 x2 x3 x4 x5)
    (v : View sig .tc .vmem S512x5120 .fp8e4m3) (f : v.ty.Contents (Elt F)) :
    v.read (Elt F) (v.writes (Elt F) f (runB c i arg2 harg2 arg3 harg3 arg4 harg4 arg5 harg5 arg6 harg6 arg7 harg7 arg8 harg8 arg9 harg9 arg10 harg10 arg11 harg11 hc0 hl0 x0 x1 x2 x3 x4 x5 xs1 (ps 0) (ps 1) (ps 2) (ps 3) (ps 4) (ps 5) (ps 6) (ps 7) (ps 8) (ps 9) (ps 10) (ps 11) (ps 12) (ps 13) (ps 14) (ps 15) (ps 16) (ps 17) (ps 18)).1) = codesOf (accMax i x0 x1 x2 x3 x4 x5 xs1) ps := by
  funext y
  refine View.read_writes_apply_of_pieces v f _ _ ?_ y (runB_cover c i arg2 harg2 arg3 harg3 arg4 harg4 arg5 harg5 arg6 harg6 arg7 harg7 arg8 harg8 arg9 harg9 arg10 harg10 arg11 harg11 hc0 hl0 x0 x1 x2 x3 x4 x5 xs1 ps y)
  dsimp only [runB]
  unfold runB.sl.r_5 runB.sl.r_6 runB.sl.r_7 runB.sl.r_8 runB.sl.r_9
  try unfold runB.sl.r_5
  rw [runB_inv, runB_plane19 (hl0 := hl0) (harg10 := harg10), ← h19]
  simp only [List.forall_mem_cons]
  refine ⟨fun x => (codesOf_emb _ _ 19 _ x (by show 0 + 1 * (x 0).val = _; omega) (by show 4864 + 1 * (x 1).val = 4864 + (x 1).val; omega)).symm, ?_⟩
  refine ⟨fun x => (codesOf_emb _ _ 18 _ x (by show 0 + 1 * (x 0).val = _; omega) (by show 4608 + 1 * (x 1).val = 4608 + (x 1).val; omega)).symm, ?_⟩
  refine ⟨fun x => (codesOf_emb _ _ 17 _ x (by show 0 + 1 * (x 0).val = _; omega) (by show 4352 + 1 * (x 1).val = 4352 + (x 1).val; omega)).symm, ?_⟩
  refine ⟨fun x => (codesOf_emb _ _ 16 _ x (by show 0 + 1 * (x 0).val = _; omega) (by show 4096 + 1 * (x 1).val = 4096 + (x 1).val; omega)).symm, ?_⟩
  refine ⟨fun x => (codesOf_emb _ _ 15 _ x (by show 0 + 1 * (x 0).val = _; omega) (by show 3840 + 1 * (x 1).val = 3840 + (x 1).val; omega)).symm, ?_⟩
  refine ⟨fun x => (codesOf_emb _ _ 14 _ x (by show 0 + 1 * (x 0).val = _; omega) (by show 3584 + 1 * (x 1).val = 3584 + (x 1).val; omega)).symm, ?_⟩
  refine ⟨fun x => (codesOf_emb _ _ 13 _ x (by show 0 + 1 * (x 0).val = _; omega) (by show 3328 + 1 * (x 1).val = 3328 + (x 1).val; omega)).symm, ?_⟩
  refine ⟨fun x => (codesOf_emb _ _ 12 _ x (by show 0 + 1 * (x 0).val = _; omega) (by show 3072 + 1 * (x 1).val = 3072 + (x 1).val; omega)).symm, ?_⟩
  refine ⟨fun x => (codesOf_emb _ _ 11 _ x (by show 0 + 1 * (x 0).val = _; omega) (by show 2816 + 1 * (x 1).val = 2816 + (x 1).val; omega)).symm, ?_⟩
  refine ⟨fun x => (codesOf_emb _ _ 10 _ x (by show 0 + 1 * (x 0).val = _; omega) (by show 2560 + 1 * (x 1).val = 2560 + (x 1).val; omega)).symm, ?_⟩
  refine ⟨fun x => (codesOf_emb _ _ 9 _ x (by show 0 + 1 * (x 0).val = _; omega) (by show 2304 + 1 * (x 1).val = 2304 + (x 1).val; omega)).symm, ?_⟩
  refine ⟨fun x => (codesOf_emb _ _ 8 _ x (by show 0 + 1 * (x 0).val = _; omega) (by show 2048 + 1 * (x 1).val = 2048 + (x 1).val; omega)).symm, ?_⟩
  refine ⟨fun x => (codesOf_emb _ _ 7 _ x (by show 0 + 1 * (x 0).val = _; omega) (by show 1792 + 1 * (x 1).val = 1792 + (x 1).val; omega)).symm, ?_⟩
  refine ⟨fun x => (codesOf_emb _ _ 6 _ x (by show 0 + 1 * (x 0).val = _; omega) (by show 1536 + 1 * (x 1).val = 1536 + (x 1).val; omega)).symm, ?_⟩
  refine ⟨fun x => (codesOf_emb _ _ 5 _ x (by show 0 + 1 * (x 0).val = _; omega) (by show 1280 + 1 * (x 1).val = 1280 + (x 1).val; omega)).symm, ?_⟩
  refine ⟨fun x => (codesOf_emb _ _ 4 _ x (by show 0 + 1 * (x 0).val = _; omega) (by show 1024 + 1 * (x 1).val = 1024 + (x 1).val; omega)).symm, ?_⟩
  refine ⟨fun x => (codesOf_emb _ _ 3 _ x (by show 0 + 1 * (x 0).val = _; omega) (by show 768 + 1 * (x 1).val = 768 + (x 1).val; omega)).symm, ?_⟩
  refine ⟨fun x => (codesOf_emb _ _ 2 _ x (by show 0 + 1 * (x 0).val = _; omega) (by show 512 + 1 * (x 1).val = 512 + (x 1).val; omega)).symm, ?_⟩
  refine ⟨fun x => (codesOf_emb _ _ 1 _ x (by show 0 + 1 * (x 0).val = _; omega) (by show 256 + 1 * (x 1).val = 256 + (x 1).val; omega)).symm, ?_⟩
  refine ⟨fun x => (codesOf_emb _ _ 0 _ x (by show 0 + 1 * (x 0).val = _; omega) (by show 0 + 1 * (x 1).val = 0 + (x 1).val; omega)).symm, ?_⟩
  intro p hp; exact absurd hp List.not_mem_nil

end Cert.KernelIdeal.Hand

end
-- ==== Proof.KernelIdeal.Run.lean ====
/- The body obligation of the pipeline, the run of the whole program, and the frame claim. -/
module

public import proofs.«01_k».proof.Proof.KernelIdeal.Inv
public import proofs.«01_k».proof.Proof.KernelIdeal.Stores

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- What a whole-buffer store leaves of a `512 × 1` buffer. -/
theorem read_one (v : View sig .tc .vmem S512x1 .f32) (f : v.ty.Contents (Elt F)) (w : Vec F S512x1 .f32) :
    v.read (Elt F) (v.writes (Elt F) f
      [(⟨Rect.unit (s := S512x1) ![0, 0] S512x1.size inb_S512x1_S512x1_0_0, w⟩ : View.Piece (Elt F) S512x1 .f32)]) = w := by
  funext y
  refine View.read_writes_cons_unit_of_mem v f inb_S512x1_S512x1_0_0 w [] y y zero2 ?_
  intro a; exact (Nat.zero_add _).symm

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, PhiS_castSucc m c t]
  unfold PhiS
  by_cases h0 : t.val % 20 = 19
  · have hc : lastTile (grid0.coords t) := (lastTile_iff t).mpr h0
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t hc], after0_6]
    rw [show (dats m 0 c).leavesExact 7 t = owns (c : Thread nD τ) (ms0_7 t) fullShare ((dats m 0 c).after 7 t) from by
      unfold Dat.leavesExact; rw [liveAt0_7 t hc], after0_7]
    iintro ⟨⟨%Y, %A, ⟨HS0, HS1⟩, %hK, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hA : accMax (grid0.coords t) (iblk m c 0 t) (iblk m c 1 t) (iblk m c 2 t) (iblk m c 3 t) (iblk m c 4 t) (iblk m c 5 t) A = maxAt m c t.val := maxAt_step m c t A fun h' => (hK h').1
    have hps : ∀ p : Fin 20, p.val < t.val % 20 → View.ld ((scM0_0 : Memref sig .tc .vmem S20x512x256 .f32).view.read (Elt F) ((Memref.isWhole_whole cc0_scratch0).unread Y)) (planeRect p) = planesAt m c t.val p := by
      intro p hp
      rw [(Memref.isWhole_whole cc0_scratch0).read_unread Y]
      exact (hK (by omega)).2 p hp
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (off1_last t h0) (iblk m c 0 t) (iblk m c 1 t) (iblk m c 2 t) (iblk m c 3 t) (iblk m c 4 t) (iblk m c 5 t) A (planesAt m c t.val 0) (planesAt m c t.val 1) (planesAt m c t.val 2) (planesAt m c t.val 3) (planesAt m c t.val 4) (planesAt m c t.val 5) (planesAt m c t.val 6) (planesAt m c t.val 7) (planesAt m c t.val 8) (planesAt m c t.val 9) (planesAt m c t.val 10) (planesAt m c t.val 11) (planesAt m c t.val 12) (planesAt m c t.val 13) (planesAt m c t.val 14) (planesAt m c t.val 15) (planesAt m c t.val 16) (planesAt m c t.val 17) (planesAt m c t.val 18)).2.2.2.2 Y (hps 0 (by show (0:ℕ) < _; omega)) (hps 1 (by show (1:ℕ) < _; omega)) (hps 2 (by show (2:ℕ) < _; omega)) (hps 3 (by show (3:ℕ) < _; omega)) (hps 4 (by show (4:ℕ) < _; omega)) (hps 5 (by show (5:ℕ) < _; omega)) (hps 6 (by show (6:ℕ) < _; omega)) (hps 7 (by show (7:ℕ) < _; omega)) (hps 8 (by show (8:ℕ) < _; omega)) (hps 9 (by show (9:ℕ) < _; omega)) (hps 10 (by show (10:ℕ) < _; omega)) (hps 11 (by show (11:ℕ) < _; omega)) (hps 12 (by show (12:ℕ) < _; omega)) (hps 13 (by show (13:ℕ) < _; omega)) (hps 14 (by show (14:ℕ) < _; omega)) (hps 15 (by show (15:ℕ) < _; omega)) (hps 16 (by show (16:ℕ) < _; omega)) (hps 17 (by show (17:ℕ) < _; omega)) (hps 18 (by show (18:ℕ) < _; omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, ⟨%e6, H6⟩, ⟨%e7, H7⟩, HS0, ⟨%es1, HS1⟩⟩
    isplitl [HS0 HS1 Hg]
    · iexists _, _
      isplitl [HS0 HS1]
      · isplitl [HS0]
        · unfold owns; iexists _; isplitr
          swap; · iexact HS0
          ipureintro; rfl
        unfold owns; iexists _; isplitr
        swap; · iexact HS1
        ipureintro; rfl
      isplitr
      · ipureintro; exact known_start m c _ _ _ (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro
      rw [runB_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (off1_last t h0) (iblk m c 0 t) (iblk m c 1 t) (iblk m c 2 t) (iblk m c 3 t) (iblk m c 4 t) (iblk m c 5 t) A (planesAt m c t.val) (planesAt_last m c t h0), hA]
      rfl
    unfold owns; iexists _; isplitr
    swap; · iexact H7
    ipureintro
    rw [runB_scale c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (off1_last t h0) (iblk m c 0 t) (iblk m c 1 t) (iblk m c 2 t) (iblk m c 3 t) (iblk m c 4 t) (iblk m c 5 t) A (planesAt m c t.val), hA]
    exact read_one _ _ _
  · have hc : ¬lastTile (grid0.coords t) := fun h => h0 ((lastTile_iff t).mp h)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6 t hc) (noFlush0_6 t hc)]
    rw [Dat.leavesExact_idle (dats m 0 c) 7 t (idleAt0_7 t hc) (noFlush0_7 t hc)]
    iintro ⟨⟨%Y, %A, ⟨HS0, HS1⟩, %hK, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (iblk m c 0 t) (iblk m c 1 t) (iblk m c 2 t) (iblk m c 3 t) (iblk m c 4 t) (iblk m c 5 t) A).2.2 _ _ Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, ⟨%es1, HS1⟩⟩
    isplitl [HS0 HS1 Hg]
    · iexists _, (accMax (grid0.coords t) (iblk m c 0 t) (iblk m c 1 t) (iblk m c 2 t) (iblk m c 3 t) (iblk m c 4 t) (iblk m c 5 t) A)
      isplitl [HS0 HS1]
      · isplitl [HS0]
        · unfold owns; iexists _; isplitr
          swap; · iexact HS0
          ipureintro; rfl
        unfold owns; iexists _; isplitr
        swap; · iexact HS1
        ipureintro
        rw [runA_max]
        exact read_one _ _ _
      isplitr
      · ipureintro
        rw [runA_tile]
        exact known_step m c t _ _ Y A hK
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%Y, HS0⟩, ⟨%A, HS1⟩⟩, Hg⟩
  iexists Y, A
  isplitl [HS0 HS1]
  · isplitl [HS0]; · iexact HS0
    iexact HS1
  isplitr
  · ipureintro; exact known_start m c _ _ _ rfl
  iexact Hg

/-- After the last point the scratch arrays are handed back, what they hold forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%Y, %A, ⟨HS0, HS1⟩, -, Hg⟩
  isplitl [HS0 HS1]
  · isplitl [HS0]
    · iexists _; iexact HS0
    iexists _; iexact HS1
  iexact Hg

/-! ## The run and the frame -/

-- `θ_run_frame_track_shared`'s implicit arguments are found by unifying its conclusion with this one, which takes unfolding plain
-- definitions in a metavariable's type
set_option backward.isDefEq.respectTransparency.types false in
/-- Every execution ends with the arrays at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim, at any float model: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Algebraic.lean ====
/- The kernel and the reference end with one codes array and one scales array. -/
module

public import proofs.«01_k».proof.Defs
public import proofs.«01_k».proof.Proof.KerValue
public import proofs.«01_k».proof.Proof.RefValue
public import proofs.«01_k».proof.Proof.KernelIdeal.Run
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Both programs end at the codes and scales of `Spec`, over the arguments they share. -/
theorem algebraic : @Cert.algebraic_KernelIdeal_ReferenceIdeal Cert.KernelIdeal.Gen.facts Cert.ReferenceIdeal.Gen.facts := by
  pair_intro
  · run_from Cert.KernelIdeal.Hand.run_main m g
  · run_from Cert.ReferenceIdeal.Gen.run_main m' g'
    · obtain ⟨a0, a1, a2, a3⟩ := hagree c
      refine (RefValue.codes_final m' c).trans (Eq.trans ?_ (KerValue.codes_final m c).symm)
      rw [a0, a1, a2, a3]
    · obtain ⟨a0, a1, a2, a3⟩ := hagree c
      refine (RefValue.scales_final m' c).trans (Eq.trans ?_ (KerValue.scales_final m c).symm)
      rw [a0, a1, a2, a3]

end Cert.Proof

end
-- ==== Proof.Kernel.Runs.lean ====
/- What the two cases of the kernel body share: the closed form of its one condition over the grid points,
   where the two output windows are left alone, and the names of the staging and scratch memrefs. -/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The one condition of the body, in closed form over the 160 grid points -/

/-- The condition of the body's conditional: this point is the last column tile of its row block. -/
abbrev lastTile (i : grid0.Coords) : Prop := k0_cond1 i = 1#1

theorem coords1 (t : Fin cfg0.N) : (grid0.coords t 1).val = t.val % 20 := by
  have h : (grid0.coords t 1).val = t.val / 1 % 20 := Pipeline.Grid.coords_val t 1 (by decide) rfl
  rw [h, Nat.div_one]

theorem coords0 (t : Fin cfg0.N) : (grid0.coords t 0).val = t.val / 20 := by
  have ht : t.val < 160 := Nat.lt_of_lt_of_eq t.isLt N_0
  have h : (grid0.coords t 0).val = t.val / 20 % 8 := Pipeline.Grid.coords_val t 0 (by decide) rfl
  rw [h]; omega

/-- The body finishes a row block exactly at the points ≡ 19 (mod 20). -/
theorem lastTile_iff : ∀ t : Fin cfg0.N, lastTile (grid0.coords t) ↔ t.val % 20 = 19 :=
  (fun t => by
    have ht : t.val < 160 := Nat.lt_of_lt_of_eq t.isLt N_0
    simp only [lastTile, k0_cond1, coords1]
    word_cmp
   : ∀ t : Fin grid0.N, lastTile (grid0.coords t) ↔ t.val % 20 = 19)

/-- The flag "this is the first column tile", as the kernel computes it at point `t`. -/
theorem first_iff (t : Fin cfg0.N) :
    Scalar.cmpi .eq (BitVec.ofNat 32 (grid0.coords t 1).val) 0#32 = 1#1 ↔ t.val % 20 = 0 := by
  have ht : t.val < 160 := Nat.lt_of_lt_of_eq t.isLt N_0
  simp only [coords1]
  word_cmp

/-- Where the body stores its tile: plane `t % 20` of the staging array of a row block. -/
theorem off1_eq : ∀ t : Fin cfg0.N, k0_off1 (grid0.coords t) = ![t.val % 20, 0, 0] :=
  (by decide +kernel : ∀ t : Fin grid0.N, k0_off1 (grid0.coords t) = ![t.val % 20, 0, 0])

theorem off1_last (t : Fin cfg0.N) (h : t.val % 20 = 19) : k0_off1 (grid0.coords t) = ![19, 0, 0] := by
  rw [off1_eq t, h]

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
/-- Output 6 is left alone and is not written back before the last column tile. -/
theorem idleAt0_6 : ∀ t : Fin cfg0.N, ¬lastTile (grid0.coords t) → cfg0.idle 6 (grid0.coords t) = true := by decide +kernel
theorem noFlush0_6 : ∀ t : Fin cfg0.N, ¬lastTile (grid0.coords t) → (cfg0.win 6).flush t = false := by decide +kernel
/-- Output 6 is stored at the last column tile. -/
theorem liveAt0_6 : ∀ t : Fin cfg0.N, lastTile (grid0.coords t) → cfg0.idle 6 (grid0.coords t) = false := by decide +kernel
/-- Output 7 is left alone and is not written back before the last column tile. -/
theorem idleAt0_7 : ∀ t : Fin cfg0.N, ¬lastTile (grid0.coords t) → cfg0.idle 7 (grid0.coords t) = true := by decide +kernel
theorem noFlush0_7 : ∀ t : Fin cfg0.N, ¬lastTile (grid0.coords t) → (cfg0.win 7).flush t = false := by decide +kernel
/-- Output 7 is stored at the last column tile. -/
theorem liveAt0_7 : ∀ t : Fin cfg0.N, lastTile (grid0.coords t) → cfg0.idle 7 (grid0.coords t) = false := by decide +kernel

/-! ## The memrefs the body is called with -/

/-- One staging buffer of output window 6, through which its contents are stated (`View.read_writes_of_cover`: the
    choice does not matter). -/
abbrev VO0_6 : View sig .tc .vmem S512x5120 .fp8e4m3 := (Memref.whole cc0_stg6_0 : Memref sig .tc .vmem S512x5120 .fp8e4m3).view
/-- One staging buffer of output window 7, through which its contents are stated (`View.read_writes_of_cover`: the
    choice does not matter). -/
abbrev VO0_7 : View sig .tc .vmem S512x1 .f32 := (Memref.whole cc0_stg7_0 : Memref sig .tc .vmem S512x1 .f32).view
/-- Each window's current staging memref at point `t`, spelled as the pipeline passes it (`bodyAt0`), and its wholeness. -/
abbrev ms0_0 (t : Fin cfg0.N) : Memref sig .tc .vmem S512x6912 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6912x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6912x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x5120 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S20x512x256 .f32 := Memref.whole cc0_scratch0
abbrev scM0_1 : Memref sig .tc .vmem S512x1 .f32 := Memref.whole cc0_scratch1
/-- The scratch `arg10` the kernel carries between points, as a view: what it holds is stated through it. -/
abbrev VS0_0 : View sig .tc .vmem S20x512x256 .f32 := scM0_0.view
/-- The scratch `arg11` the kernel carries between points, as a view: what it holds is stated through it. -/
abbrev VS0_1 : View sig .tc .vmem S512x1 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.Kernel.Tile.lean ====
/- What one grid point of the kernel computes, as functions of the blocks it reads. -/
module

public import proofs.«01_k».proof.Proof.Kernel.Runs
public import Idealize.ShloMosaic.Lib.WholeRead
public import Idealize.ShloMosaic.Lib.Pipeline.Value

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point computes, as functions of what it reads -/

/-- The tile of the product the body computes from its six input blocks, and stores in one plane of the staging array. -/
abbrev tileOf (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) : Vec F S1x512x256 .f32 := k0_pay38 x0 x1 x2 x3 x4 x5

/-- The running maximum after this point, from the maximum before it (which the first column tile discards). -/
abbrev accMax (i : grid0.Coords) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (d : Vec F S512x1 .f32) : Vec F S512x1 .f32 :=
  k0_pay1 (k0_pay39 x0 x1 x2 x3 x4 x5) (Scalar.cmpi .eq (BitVec.ofNat 32 (i 1).val) 0#32) d

/-- The exponent field the kernel finds from the row maxima `a`. -/
abbrev fieldOf (a : Vec F S512x1 .f32) : IVec S512x1 32 := k0_pay7 a (k0_pay4 a) (k0_pay5 a) k0_pay6

/-- The scales the kernel stores for the row maxima `a`. -/
abbrev scaleOf (a : Vec F S512x1 .f32) : Vec F S512x1 .f32 := k0_pay9 (k0_pay8 a (k0_pay4 a) (k0_pay5 a) k0_pay6)

/-- The factors the kernel multiplies a row by before rounding. -/
abbrev invOf (a : Vec F S512x1 .f32) : FVec F S512x1 .f32 := k0_pay10 (fieldOf a)

/-- The codes of one block of rows: column `y 1` is column `y 1 % 256` of the plane `y 1 / 256`. -/
def codesOf (a : Vec F S512x1 .f32) (ps : Fin 20 → Vec F S1x512x256 .f32) : Vec F S512x5120 .fp8e4m3 := fun y =>
  k0_pay3 (invOf a) (ps ⟨(y 1).val / 256, by have : (y 1).val < 5120 := (y 1).isLt; omega⟩)
    (fun b => ⟨if b.val = 0 then (y 0).val else (y 1).val % 256, by
      have h0 : (y 0).val < 512 := (y 0).isLt
      revert b; intro b; fin_cases b
      · exact h0
      · exact Nat.mod_lt _ (by decide)⟩)

/-- The codes at the place of element `x` of the `k`-th piece. -/
theorem codesOf_emb (a : Vec F S512x1 .f32) (ps : Fin 20 → Vec F S1x512x256 .f32) (k : Fin 20) (y : S512x5120.Idx)
    (x : S512x256.Idx) (h0 : (y 0).val = (x 0).val) (h1 : (y 1).val = 256 * k.val + (x 1).val) :
    codesOf a ps y = k0_pay3 (invOf a) (ps k) x := by
  have hx : (x 1).val < 256 := (x 1).isLt
  unfold codesOf
  have e1 : (y 1).val / 256 = k.val := by omega
  have e2 : (y 1).val % 256 = (x 1).val := by omega
  have e3 : (⟨(y 1).val / 256, by have : (y 1).val < 5120 := (y 1).isLt; omega⟩ : Fin 20) = k := Fin.ext e1
  rw [e3]
  congr 1
  funext b
  apply Fin.ext
  fin_cases b
  · exact h0
  · exact e2

/-! ## Whole loads -/

theorem zero2 : (![0, 0] : Fin 2 → Nat) = fun _ => 0 := by decide

/-- A load of all of a whole memref reads what it holds. -/
theorem readAt_full {a b : Nat} {e : EltTy} (M : Memref sig .tc .vmem (⟨2, ![a, b]⟩ : Shape) e) (h : M.IsWhole)
    (inb : ∀ k, (![0, 0] : Fin 2 → Nat) k + (⟨2, ![a, b]⟩ : Shape).size k ≤ (⟨2, ![a, b]⟩ : Shape).size k)
    (x : Vec F (⟨2, ![a, b]⟩ : Shape) e) :
    View.readAt (Elt F) M.view (Rect.unit (s := (⟨2, ![a, b]⟩ : Shape)) ![0, 0] (⟨2, ![a, b]⟩ : Shape).size inb).toLoadRect (h.unread x) = x := by
  funext y
  rw [h.readAt_unread]
  congr 1
  funext k
  apply Fin.ext
  have : (![0, 0] : Fin 2 → Nat) k = 0 := by rw [zero2]
  show (![0, 0] : Fin 2 → Nat) k + 1 * (y k).val = (y k).val
  omega

end Cert.Kernel.Hand

end
-- ==== Proof.Kernel.Inv.lean ====
/- What the two scratch arrays hold between grid points, and the proof data of the pipeline stated with it. -/
module

public import proofs.«01_k».proof.Proof.Kernel.Tile
public import Idealize.ShloMosaic.Lib.WritesUnit

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch arrays hold between grid points -/

/-- The grid point with number `n`. -/
def pt (n : ℕ) : Fin cfg0.N := ⟨n % 160, by rw [show cfg0.N = 160 from N_0]; exact Nat.mod_lt _ (by decide)⟩

theorem pt_val (t : Fin cfg0.N) : pt t.val = t :=
  Fin.ext (Nat.mod_eq_of_lt (lt_of_lt_of_eq t.isLt (show cfg0.N = 160 from N_0)))

/-- The tile of the product computed at point `n`. -/
def tileAt (c : Dev nD) (n : ℕ) : Vec F S1x512x256 .f32 := tileOf (iblk m c 0 (pt n)) (iblk m c 1 (pt n)) (iblk m c 2 (pt n)) (iblk m c 3 (pt n)) (iblk m c 4 (pt n)) (iblk m c 5 (pt n))

/-- The row maxima of the tile computed at point `n`. -/
def stepMaxAt (c : Dev nD) (n : ℕ) : Vec F S512x1 .f32 := k0_pay39 (iblk m c 0 (pt n)) (iblk m c 1 (pt n)) (iblk m c 2 (pt n)) (iblk m c 3 (pt n)) (iblk m c 4 (pt n)) (iblk m c 5 (pt n))

/-- The running row maxima after point `n`: started afresh at the first column tile. -/
def maxAt (c : Dev nD) : ℕ → Vec F S512x1 .f32
  | 0 => stepMaxAt m c 0
  | n + 1 => if (n + 1) % 20 = 0 then stepMaxAt m c (n + 1) else maximumf (maxAt c n) (stepMaxAt m c (n + 1))

theorem accMax_first (i : grid0.Coords) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (d : Vec F S512x1 .f32)
    (h : Scalar.cmpi .eq (BitVec.ofNat 32 (i 1).val) 0#32 = 1#1) : accMax i x0 x1 x2 x3 x4 x5 d = k0_pay39 x0 x1 x2 x3 x4 x5 := by
  show shapeCast S512x1 (Scalar.select _ _ _) _ = _
  rw [shapeCast_self]
  exact if_pos h

theorem accMax_later (i : grid0.Coords) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (d : Vec F S512x1 .f32)
    (h : ¬Scalar.cmpi .eq (BitVec.ofNat 32 (i 1).val) 0#32 = 1#1) :
    accMax i x0 x1 x2 x3 x4 x5 d = maximumf d (k0_pay39 x0 x1 x2 x3 x4 x5) := by
  show shapeCast S512x1 (Scalar.select _ _ _) _ = _
  rw [shapeCast_self]
  exact if_neg h

/-- What the body leaves in the running maximum at point `t`, when it found the running maximum of the point before. -/
theorem maxAt_step (c : Dev nD) (t : Fin cfg0.N) (A : Vec F S512x1 .f32) (hA : t.val % 20 ≠ 0 → A = maxAt m c (t.val - 1)) :
    accMax (grid0.coords t) (iblk m c 0 t) (iblk m c 1 t) (iblk m c 2 t) (iblk m c 3 t) (iblk m c 4 t) (iblk m c 5 t) A = maxAt m c t.val := by
  have hs : k0_pay39 (iblk m c 0 t) (iblk m c 1 t) (iblk m c 2 t) (iblk m c 3 t) (iblk m c 4 t) (iblk m c 5 t) = stepMaxAt m c t.val := by unfold stepMaxAt; rw [pt_val]
  by_cases h : t.val % 20 = 0
  · rw [accMax_first _ _ _ _ _ _ _ _ ((first_iff t).mpr h), hs]
    cases hn : t.val with
    | zero => rfl
    | succ n => rw [hn] at h; simp only [maxAt]; rw [if_pos h]
  · rw [accMax_later _ _ _ _ _ _ _ _ (fun h' => h ((first_iff t).mp h')), hs, hA h]
    cases hn : t.val with
    | zero => rw [hn] at h; exact absurd rfl h
    | succ n => rw [hn] at h; simp only [maxAt, Nat.add_sub_cancel]; rw [if_neg h]

theorem planeInb (p : Fin 20) : ∀ a, (![p.val, 0, 0] : Fin 3 → Nat) a + S1x512x256.size a ≤ S20x512x256.size a := by
  revert p; decide

/-- Plane `p` of the staging array. -/
abbrev planeRect (p : Fin 20) : Rect S20x512x256 := Rect.unit (s := S20x512x256) ![p.val, 0, 0] S1x512x256.size (planeInb p)

/-- A store of plane `j` leaves the other planes as they were. -/
theorem store_plane (M : Memref sig .tc .vmem S20x512x256 .f32) (hM : M.IsWhole) (Y : Vec F S20x512x256 .f32) (j p : Fin 20)
    (off : Fin 3 → Nat) (hoff : off = ![j.val, 0, 0]) (inb : ∀ a, off a + S1x512x256.size a ≤ S20x512x256.size a)
    (w : Vec F S1x512x256 .f32) :
    View.ld (M.view.read (Elt F) (M.view.writes (Elt F) (hM.unread Y)
        [(⟨Rect.unit (s := S20x512x256) off S1x512x256.size inb, w⟩ : View.Piece (Elt F) S20x512x256 .f32)])) (planeRect p)
      = if p = j then w else View.ld Y (planeRect p) := by
  funext x
  have hx0 : (x 0).val = 0 := by have : (x 0).val < 1 := (x 0).isLt; omega
  show M.view.read (Elt F) (M.view.writes (Elt F) (hM.unread Y) _) ((planeRect p).idx x) = _
  by_cases h : p = j
  · rw [if_pos h]
    refine View.read_writes_cons_unit_of_mem M.view (hM.unread Y) inb w [] ((planeRect p).idx x) x hoff ?_
    intro a
    subst h
    show (![p.val, 0, 0] : Fin 3 → Nat) a + 1 * (x a).val = _
    omega
  · rw [if_neg h, View.read_writes_cons_unit_of_not_mem M.view (hM.unread Y) inb w [] ((planeRect p).idx x) hoff 0 ?_]
    · exact congrFun (hM.read_unread Y) _
    · show p.val + 1 * (x 0).val < j.val ∨ j.val + 1 ≤ p.val + 1 * (x 0).val
      have : p.val ≠ j.val := fun e => h (Fin.ext e)
      omega

/-- What is known of the two scratch arrays before point `n`, inside a row block: the running maximum of the points of
    the block so far, and their tiles in the planes they stored. -/
def Known (c : Dev nD) (n : ℕ) (Y : Vec F S20x512x256 .f32) (A : Vec F S512x1 .f32) : Prop :=
  n % 20 ≠ 0 → A = maxAt m c (n - 1) ∧ ∀ p : Fin 20, p.val < n % 20 → View.ld Y (planeRect p) = tileAt m c (20 * (n / 20) + p.val)

theorem known_start (c : Dev nD) (Y : Vec F S20x512x256 .f32) (A : Vec F S512x1 .f32) (n : ℕ) (h : n % 20 = 0) : Known m c n Y A :=
  fun h' => absurd h h'

/-- A point's store and new maximum carry what is known to the next point. -/
theorem known_step (c : Dev nD) (t : Fin cfg0.N) (M : Memref sig .tc .vmem S20x512x256 .f32) (hM : M.IsWhole)
    (Y : Vec F S20x512x256 .f32) (A : Vec F S512x1 .f32) (h : Known m c t.val Y A) :
    Known m c (t.val + 1)
      (M.view.read (Elt F) (M.view.writes (Elt F) (hM.unread Y)
        [(⟨Rect.unit (s := S20x512x256) (k0_off1 (grid0.coords t)) S1x512x256.size (k0_off1_inb (grid0.coords t)),
          tileOf (iblk m c 0 t) (iblk m c 1 t) (iblk m c 2 t) (iblk m c 3 t) (iblk m c 4 t) (iblk m c 5 t)⟩ : View.Piece (Elt F) S20x512x256 .f32)]))
      (accMax (grid0.coords t) (iblk m c 0 t) (iblk m c 1 t) (iblk m c 2 t) (iblk m c 3 t) (iblk m c 4 t) (iblk m c 5 t) A) := by
  intro hn
  refine ⟨?_, fun p hp => ?_⟩
  · rw [Nat.add_sub_cancel]; exact maxAt_step m c t A fun h' => (h h').1
  · have hj : t.val % 20 < 20 := Nat.mod_lt _ (by decide)
    rw [store_plane M hM Y ⟨t.val % 20, hj⟩ p _ (off1_eq t) _ _]
    have e : (t.val + 1) / 20 = t.val / 20 := by omega
    by_cases hpj : p = ⟨t.val % 20, hj⟩
    · rw [if_pos hpj, hpj, e]
      show _ = tileAt m c (20 * (t.val / 20) + t.val % 20)
      rw [Nat.div_add_mod]
      unfold tileAt; rw [pt_val]
    · rw [if_neg hpj, e]
      have hpv : p.val ≠ t.val % 20 := fun e' => hpj (Fin.ext e')
      exact (h (by omega)).2 p (by omega)

/-- The planes a row block has stored by its last column tile, that tile's own included. -/
def planesAt (c : Dev nD) (n : ℕ) : Fin 20 → Vec F S1x512x256 .f32 := fun p => tileAt m c (20 * (n / 20) + p.val)

theorem planesAt_last (c : Dev nD) (t : Fin cfg0.N) (h : t.val % 20 = 19) : planesAt m c t.val 19 = tileOf (iblk m c 0 t) (iblk m c 1 t) (iblk m c 2 t) (iblk m c 3 t) (iblk m c 4 t) (iblk m c 5 t) := by
  show tileAt m c (20 * (t.val / 20) + 19) = _
  rw [← h, Nat.div_add_mod]
  unfold tileAt; rw [pt_val]

/-- The codes and the scales stored at the last column tile of a row block. -/
def codesAt (c : Dev nD) (n : ℕ) : Vec F S512x5120 .fp8e4m3 := codesOf (maxAt m c n) (planesAt m c n)
def scalesAt (c : Dev nD) (n : ℕ) : Vec F S512x1 .f32 := scaleOf (maxAt m c n)

/-- The invariant of the grid: both scratch arrays at some contents of which `Known` holds, and the generator register. -/
def PhiS (c : Dev nD) (n : ℕ) : sProp 𝕄 :=
  iprop(∃ Y A, (owns (c : Thread nD τ) scM0_0 fullShare Y ∗ owns (c : Thread nD τ) scM0_1 fullShare A)
    ∗ ⌜Known m c n Y A⌝ ∗ (∃ r, prngReg c r))

/-! ## The pipeline's proof data -/

/-- The arrays as the region finds them; after the body each input's buffer at its block and the outputs' at the codes
    and the scales of the row block; nothing owed; each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t.val
    | ⟨7, _⟩ => scalesAt m c t.val
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesAt m c t.val := by dsimp only [dats]
theorem after0_7 (c : Dev nD) (t : Fin cfg0.N) : (dats m 0 c).after 7 t = scalesAt m c t.val := by dsimp only [dats]

/-- Each input's staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.Kernel.Hand

end
-- ==== Proof.Kernel.RunA.lean ====
/- The kernel body at a point before the last column tile of a row block. -/
module

public import proofs.«01_k».proof.Proof.Kernel.Runs

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point before the last column tile, on any memrefs: the six inputs come back as they were, the two
    outputs are untouched, and the two scratch arrays hold what they held with the listed stores over it. -/
noncomputable def runA (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : ¬lastTile i)
    (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) :
    Σ' (LS0 : List (View.Piece (Elt F) S20x512x256 .f32)), { LS1 : List (View.Piece (Elt F) S512x1 .f32) //
      ∀ (xi6 : Vec F S512x5120 .fp8e4m3) (xi7 : Vec F S512x1 .f32) (xs0 : Vec F S20x512x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_swiglu_requant i arg2 harg2 arg3 harg3 arg4 harg4 arg5 harg5 arg6 harg6 arg7 harg7 arg8 harg8 arg9 harg9 arg10 harg10 arg11 harg11) K } := by
  refine ⟨?_, ?_, fun xi6 xi7 xs0 E K => ?run⟩
  case run =>
    simp only [cc0_swiglu_requant_eq_skeleton]; unfold cc0_swiglu_requant_skel
    simp only [k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.Kernel.Hand

end
-- ==== Proof.Kernel.RunB.lean ====
/- The kernel body at the last column tile of a row block. -/
module

public import proofs.«01_k».proof.Proof.Kernel.Runs

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last column tile of a row block, on any memrefs, when the planes 0 … 18 of the staging array hold
    `ps0` … `ps18`: the six inputs come back as they were, the two outputs and the two scratch arrays hold the listed
    stores. -/
noncomputable def runB (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : lastTile i) (hl0 : k0_off1 i = ![19, 0, 0])
    (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) (ps0 : Vec F S1x512x256 .f32) (ps1 : Vec F S1x512x256 .f32) (ps2 : Vec F S1x512x256 .f32) (ps3 : Vec F S1x512x256 .f32) (ps4 : Vec F S1x512x256 .f32) (ps5 : Vec F S1x512x256 .f32) (ps6 : Vec F S1x512x256 .f32) (ps7 : Vec F S1x512x256 .f32) (ps8 : Vec F S1x512x256 .f32) (ps9 : Vec F S1x512x256 .f32) (ps10 : Vec F S1x512x256 .f32) (ps11 : Vec F S1x512x256 .f32) (ps12 : Vec F S1x512x256 .f32) (ps13 : Vec F S1x512x256 .f32) (ps14 : Vec F S1x512x256 .f32) (ps15 : Vec F S1x512x256 .f32) (ps16 : Vec F S1x512x256 .f32) (ps17 : Vec F S1x512x256 .f32) (ps18 : Vec F S1x512x256 .f32) :
    Σ' (L6 : List (View.Piece (Elt F) S512x5120 .fp8e4m3)), Σ' (L7 : List (View.Piece (Elt F) S512x1 .f32)), Σ' (LS0 : List (View.Piece (Elt F) S20x512x256 .f32)), { LS1 : List (View.Piece (Elt F) S512x1 .f32) //
      ∀ (xs0 : Vec F S20x512x256 .f32) (hps0 : View.readAt (Elt F) arg10.view (Rect.unit (s := S20x512x256) ![0, 0, 0] S1x512x256.size inb_S20x512x256_S1x512x256_0_0_0).toLoadRect (harg10.unread xs0) = ps0) (hps1 : View.readAt (Elt F) arg10.view (Rect.unit (s := S20x512x256) ![1, 0, 0] S1x512x256.size inb_S20x512x256_S1x512x256_1_0_0).toLoadRect (harg10.unread xs0) = ps1) (hps2 : View.readAt (Elt F) arg10.view (Rect.unit (s := S20x512x256) ![2, 0, 0] S1x512x256.size inb_S20x512x256_S1x512x256_2_0_0).toLoadRect (harg10.unread xs0) = ps2) (hps3 : View.readAt (Elt F) arg10.view (Rect.unit (s := S20x512x256) ![3, 0, 0] S1x512x256.size inb_S20x512x256_S1x512x256_3_0_0).toLoadRect (harg10.unread xs0) = ps3) (hps4 : View.readAt (Elt F) arg10.view (Rect.unit (s := S20x512x256) ![4, 0, 0] S1x512x256.size inb_S20x512x256_S1x512x256_4_0_0).toLoadRect (harg10.unread xs0) = ps4) (hps5 : View.readAt (Elt F) arg10.view (Rect.unit (s := S20x512x256) ![5, 0, 0] S1x512x256.size inb_S20x512x256_S1x512x256_5_0_0).toLoadRect (harg10.unread xs0) = ps5) (hps6 : View.readAt (Elt F) arg10.view (Rect.unit (s := S20x512x256) ![6, 0, 0] S1x512x256.size inb_S20x512x256_S1x512x256_6_0_0).toLoadRect (harg10.unread xs0) = ps6) (hps7 : View.readAt (Elt F) arg10.view (Rect.unit (s := S20x512x256) ![7, 0, 0] S1x512x256.size inb_S20x512x256_S1x512x256_7_0_0).toLoadRect (harg10.unread xs0) = ps7) (hps8 : View.readAt (Elt F) arg10.view (Rect.unit (s := S20x512x256) ![8, 0, 0] S1x512x256.size inb_S20x512x256_S1x512x256_8_0_0).toLoadRect (harg10.unread xs0) = ps8) (hps9 : View.readAt (Elt F) arg10.view (Rect.unit (s := S20x512x256) ![9, 0, 0] S1x512x256.size inb_S20x512x256_S1x512x256_9_0_0).toLoadRect (harg10.unread xs0) = ps9) (hps10 : View.readAt (Elt F) arg10.view (Rect.unit (s := S20x512x256) ![10, 0, 0] S1x512x256.size inb_S20x512x256_S1x512x256_10_0_0).toLoadRect (harg10.unread xs0) = ps10) (hps11 : View.readAt (Elt F) arg10.view (Rect.unit (s := S20x512x256) ![11, 0, 0] S1x512x256.size inb_S20x512x256_S1x512x256_11_0_0).toLoadRect (harg10.unread xs0) = ps11) (hps12 : View.readAt (Elt F) arg10.view (Rect.unit (s := S20x512x256) ![12, 0, 0] S1x512x256.size inb_S20x512x256_S1x512x256_12_0_0).toLoadRect (harg10.unread xs0) = ps12) (hps13 : View.readAt (Elt F) arg10.view (Rect.unit (s := S20x512x256) ![13, 0, 0] S1x512x256.size inb_S20x512x256_S1x512x256_13_0_0).toLoadRect (harg10.unread xs0) = ps13) (hps14 : View.readAt (Elt F) arg10.view (Rect.unit (s := S20x512x256) ![14, 0, 0] S1x512x256.size inb_S20x512x256_S1x512x256_14_0_0).toLoadRect (harg10.unread xs0) = ps14) (hps15 : View.readAt (Elt F) arg10.view (Rect.unit (s := S20x512x256) ![15, 0, 0] S1x512x256.size inb_S20x512x256_S1x512x256_15_0_0).toLoadRect (harg10.unread xs0) = ps15) (hps16 : View.readAt (Elt F) arg10.view (Rect.unit (s := S20x512x256) ![16, 0, 0] S1x512x256.size inb_S20x512x256_S1x512x256_16_0_0).toLoadRect (harg10.unread xs0) = ps16) (hps17 : View.readAt (Elt F) arg10.view (Rect.unit (s := S20x512x256) ![17, 0, 0] S1x512x256.size inb_S20x512x256_S1x512x256_17_0_0).toLoadRect (harg10.unread xs0) = ps17) (hps18 : View.readAt (Elt F) arg10.view (Rect.unit (s := S20x512x256) ![18, 0, 0] S1x512x256.size inb_S20x512x256_S1x512x256_18_0_0).toLoadRect (harg10.unread xs0) = ps18) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_swiglu_requant i arg2 harg2 arg3 harg3 arg4 harg4 arg5 harg5 arg6 harg6 arg7 harg7 arg8 harg8 arg9 harg9 arg10 harg10 arg11 harg11) K } := by
  refine ⟨?_, ?_, ?_, ?_, fun xs0 hps0 hps1 hps2 hps3 hps4 hps5 hps6 hps7 hps8 hps9 hps10 hps11 hps12 hps13 hps14 hps15 hps16 hps17 hps18 E K => ?run⟩
  case run =>
    letI : ClosedOff (k0_off1 i) := ⟨![19, 0, 0], hl0⟩
    simp only [cc0_swiglu_requant_eq_skeleton]; unfold cc0_swiglu_requant_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexact HS0
    iexists _; iexact HS1

end Cert.Kernel.Hand

end
-- ==== Proof.Kernel.Stores.lean ====
/- What the stores of each case of the kernel body are, in terms of the functions of `Tile`. -/
module

public import proofs.«01_k».proof.Proof.Kernel.Tile
public import proofs.«01_k».proof.Proof.Kernel.RunA
public import proofs.«01_k».proof.Proof.Kernel.RunB

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores of a point before the last column tile -/

theorem runA_tile (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : ¬lastTile i) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) :
    (runA c i arg2 harg2 arg3 harg3 arg4 harg4 arg5 harg5 arg6 harg6 arg7 harg7 arg8 harg8 arg9 harg9 arg10 harg10 arg11 harg11 hc0 x0 x1 x2 x3 x4 x5 xs1).1 = [⟨Rect.unit (k0_off1 i) S1x512x256.size (k0_off1_inb i), tileOf x0 x1 x2 x3 x4 x5⟩] := by
  dsimp only [runA]
  rw [readAt_full arg2 harg2, readAt_full arg3 harg3, readAt_full arg4 harg4, readAt_full arg5 harg5, readAt_full arg6 harg6, readAt_full arg7 harg7]

theorem runA_max (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : ¬lastTile i) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) :
    (runA c i arg2 harg2 arg3 harg3 arg4 harg4 arg5 harg5 arg6 harg6 arg7 harg7 arg8 harg8 arg9 harg9 arg10 harg10 arg11 harg11 hc0 x0 x1 x2 x3 x4 x5 xs1).2.1 = [⟨Rect.unit ![0, 0] S512x1.size inb_S512x1_S512x1_0_0, accMax i x0 x1 x2 x3 x4 x5 xs1⟩] := by
  dsimp only [runA]
  unfold runA.sl.r runA.sl.v34
  rw [readAt_full arg2 harg2, readAt_full arg3 harg3, readAt_full arg4 harg4, readAt_full arg5 harg5, readAt_full arg6 harg6, readAt_full arg7 harg7, readAt_full arg11 harg11]

/-! ## The stores of the last column tile -/

theorem runB_tile (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : lastTile i) (hl0 : k0_off1 i = ![19, 0, 0]) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) (ps : Fin 20 → Vec F S1x512x256 .f32) :
    (runB c i arg2 harg2 arg3 harg3 arg4 harg4 arg5 harg5 arg6 harg6 arg7 harg7 arg8 harg8 arg9 harg9 arg10 harg10 arg11 harg11 hc0 hl0 x0 x1 x2 x3 x4 x5 xs1 (ps 0) (ps 1) (ps 2) (ps 3) (ps 4) (ps 5) (ps 6) (ps 7) (ps 8) (ps 9) (ps 10) (ps 11) (ps 12) (ps 13) (ps 14) (ps 15) (ps 16) (ps 17) (ps 18)).2.2.1 = [⟨Rect.unit (k0_off1 i) S1x512x256.size (k0_off1_inb i), tileOf x0 x1 x2 x3 x4 x5⟩] := by
  dsimp only [runB]
  unfold runB.sl.HS0_1
  rw [readAt_full arg2 harg2, readAt_full arg3 harg3, readAt_full arg4 harg4, readAt_full arg5 harg5, readAt_full arg6 harg6, readAt_full arg7 harg7]

theorem runB_max (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : lastTile i) (hl0 : k0_off1 i = ![19, 0, 0]) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) (ps : Fin 20 → Vec F S1x512x256 .f32) :
    (runB c i arg2 harg2 arg3 harg3 arg4 harg4 arg5 harg5 arg6 harg6 arg7 harg7 arg8 harg8 arg9 harg9 arg10 harg10 arg11 harg11 hc0 hl0 x0 x1 x2 x3 x4 x5 xs1 (ps 0) (ps 1) (ps 2) (ps 3) (ps 4) (ps 5) (ps 6) (ps 7) (ps 8) (ps 9) (ps 10) (ps 11) (ps 12) (ps 13) (ps 14) (ps 15) (ps 16) (ps 17) (ps 18)).2.2.2.1 = [⟨Rect.unit ![0, 0] S512x1.size inb_S512x1_S512x1_0_0, accMax i x0 x1 x2 x3 x4 x5 xs1⟩] := by
  dsimp only [runB]
  unfold runB.sl.HS1_1
  try unfold runB.sl.r
  try unfold runB.sl.v34
  rw [readAt_full arg2 harg2, readAt_full arg3 harg3, readAt_full arg4 harg4, readAt_full arg5 harg5, readAt_full arg6 harg6, readAt_full arg7 harg7, readAt_full arg11 harg11]

/-- The row maxima the last column tile reads back are the ones it has just stored. -/
theorem runB_amax (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg11 : Memref sig .tc .vmem S512x1 .f32) (harg11 : arg11.IsWhole) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) :
    runB.sl.v44 c i arg2 harg2 arg3 harg3 arg4 harg4 arg5 harg5 arg6 harg6 arg7 harg7 arg11 harg11 x0 x1 x2 x3 x4 x5 xs1 = accMax i x0 x1 x2 x3 x4 x5 xs1 := by
  unfold runB.sl.v44 runB.sl.HS1_1
  try unfold runB.sl.r
  try unfold runB.sl.v34
  rw [readAt_full arg2 harg2, readAt_full arg3 harg3, readAt_full arg4 harg4, readAt_full arg5 harg5, readAt_full arg6 harg6, readAt_full arg7 harg7, readAt_full arg11 harg11]
  exact View.readCov_cons_toLoadRect _ _ _ _

theorem runB_inv (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg11 : Memref sig .tc .vmem S512x1 .f32) (harg11 : arg11.IsWhole) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) :
    runB.sl.r_3 c i arg2 harg2 arg3 harg3 arg4 harg4 arg5 harg5 arg6 harg6 arg7 harg7 arg11 harg11 x0 x1 x2 x3 x4 x5 xs1 = fieldOf (accMax i x0 x1 x2 x3 x4 x5 xs1) := by
  unfold runB.sl.r_3 runB.sl.r_2 runB.sl.r_1
  rw [runB_amax]

theorem runB_plane19 (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg10 : Memref sig .tc .vmem S20x512x256 .f32) (harg10 : arg10.IsWhole) (hl0 : k0_off1 i = ![19, 0, 0]) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) :
    runB.sl.v339 c i arg2 harg2 arg3 harg3 arg4 harg4 arg5 harg5 arg6 harg6 arg7 harg7 arg10 x0 x1 x2 x3 x4 x5 = tileOf x0 x1 x2 x3 x4 x5 := by
  unfold runB.sl.v339 runB.sl.HS0_1
  rw [readAt_full arg2 harg2, readAt_full arg3 harg3, readAt_full arg4 harg4, readAt_full arg5 harg5, readAt_full arg6 harg6, readAt_full arg7 harg7]
  have key : ∀ (off : Fin 3 → Nat) (h : off = ![19, 0, 0]) (inb : ∀ a, off a + S1x512x256.size a ≤ S20x512x256.size a)
      (w : Vec F S1x512x256 .f32),
      arg10.view.readCov [(⟨Rect.unit (s := S20x512x256) off S1x512x256.size inb, w⟩ : View.Piece (Elt F) S20x512x256 .f32)]
        (Rect.unit (s := S20x512x256) ![19, 0, 0] S1x512x256.size inb_S20x512x256_S1x512x256_19_0_0).toLoadRect = w := by
    intro off h inb w
    subst h
    exact View.readCov_cons_toLoadRect _ _ _ _
  exact key _ hl0 _ _

theorem runB_scale (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : lastTile i) (hl0 : k0_off1 i = ![19, 0, 0]) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) (ps : Fin 20 → Vec F S1x512x256 .f32) :
    (runB c i arg2 harg2 arg3 harg3 arg4 harg4 arg5 harg5 arg6 harg6 arg7 harg7 arg8 harg8 arg9 harg9 arg10 harg10 arg11 harg11 hc0 hl0 x0 x1 x2 x3 x4 x5 xs1 (ps 0) (ps 1) (ps 2) (ps 3) (ps 4) (ps 5) (ps 6) (ps 7) (ps 8) (ps 9) (ps 10) (ps 11) (ps 12) (ps 13) (ps 14) (ps 15) (ps 16) (ps 17) (ps 18)).2.1 = [⟨Rect.unit ![0, 0] S512x1.size inb_S512x1_S512x1_0_0, scaleOf (accMax i x0 x1 x2 x3 x4 x5 xs1)⟩] := by
  dsimp only [runB]
  unfold runB.sl.r_4 runB.sl.r_2 runB.sl.r_1
  rw [runB_amax]

/-- The twenty stores of the codes cover the block. -/
theorem runB_cover (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : lastTile i) (hl0 : k0_off1 i = ![19, 0, 0]) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) (ps : Fin 20 → Vec F S1x512x256 .f32) (y : S512x5120.Idx) : ∃ pc ∈ (runB c i arg2 harg2 arg3 harg3 arg4 harg4 arg5 harg5 arg6 harg6 arg7 harg7 arg8 harg8 arg9 harg9 arg10 harg10 arg11 harg11 hc0 hl0 x0 x1 x2 x3 x4 x5 xs1 (ps 0) (ps 1) (ps 2) (ps 3) (ps 4) (ps 5) (ps 6) (ps 7) (ps 8) (ps 9) (ps 10) (ps 11) (ps 12) (ps 13) (ps 14) (ps 15) (ps 16) (ps 17) (ps 18)).1, y ∈ pc.1.set :=
  View.cover_of_tiledL (runB c i arg2 harg2 arg3 harg3 arg4 harg4 arg5 harg5 arg6 harg6 arg7 harg7 arg8 harg8 arg9 harg9 arg10 harg10 arg11 harg11 hc0 hl0 x0 x1 x2 x3 x4 x5 xs1 (ps 0) (ps 1) (ps 2) (ps 3) (ps 4) (ps 5) (ps 6) (ps 7) (ps 8) (ps 9) (ps 10) (ps 11) (ps 12) (ps 13) (ps 14) (ps 15) (ps 16) (ps 17) (ps 18)).1 S512x256.size (by sl_kernel_rfl) y

set_option maxHeartbeats 2000000 in
/-- The twenty stores of the codes leave `codesOf` of the row maxima and the planes, whatever the block held before. -/
theorem runB_codes (c : Dev nD) (i : grid0.Coords) (arg2 : Memref sig .tc .vmem S512x6912 .fp8e4m3) (harg2 : arg2.IsWhole) (arg3 : Memref sig .tc .vmem S512x1 .f32) (harg3 : arg3.IsWhole) (arg4 : Memref sig .tc .vmem S6912x256 .fp8e4m3) (harg4 : arg4.IsWhole) (arg5 : Memref sig .tc .vmem S6912x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S512x5120 .fp8e4m3) (harg8 : arg8.IsWhole) (arg9 : Memref sig .tc .vmem S512x1 .f32) (harg9 : arg9.IsWhole) (arg10 : Memref sig .tc .vmem S20x512x256 .f32) (harg10 : arg10.IsWhole) (arg11 : Memref sig .tc .vmem S512x1 .f32) (harg11 : arg11.IsWhole) (hc0 : lastTile i) (hl0 : k0_off1 i = ![19, 0, 0]) (x0 : Vec F S512x6912 .fp8e4m3) (x1 : Vec F S512x1 .f32) (x2 : Vec F S6912x256 .fp8e4m3) (x3 : Vec F S6912x256 .fp8e4m3) (x4 : Vec F S1x256 .f32) (x5 : Vec F S1x256 .f32) (xs1 : Vec F S512x1 .f32) (ps : Fin 20 → Vec F S1x512x256 .f32) (h19 : ps 19 = tileOf x0 x1 x2 x3 x4 x5)
    (v : View sig .tc .vmem S512x5120 .fp8e4m3) (f : v.ty.Contents (Elt F)) :
    v.read (Elt F) (v.writes (Elt F) f (runB c i arg2 harg2 arg3 harg3 arg4 harg4 arg5 harg5 arg6 harg6 arg7 harg7 arg8 harg8 arg9 harg9 arg10 harg10 arg11 harg11 hc0 hl0 x0 x1 x2 x3 x4 x5 xs1 (ps 0) (ps 1) (ps 2) (ps 3) (ps 4) (ps 5) (ps 6) (ps 7) (ps 8) (ps 9) (ps 10) (ps 11) (ps 12) (ps 13) (ps 14) (ps 15) (ps 16) (ps 17) (ps 18)).1) = codesOf (accMax i x0 x1 x2 x3 x4 x5 xs1) ps := by
  funext y
  refine View.read_writes_apply_of_pieces v f _ _ ?_ y (runB_cover c i arg2 harg2 arg3 harg3 arg4 harg4 arg5 harg5 arg6 harg6 arg7 harg7 arg8 harg8 arg9 harg9 arg10 harg10 arg11 harg11 hc0 hl0 x0 x1 x2 x3 x4 x5 xs1 ps y)
  dsimp only [runB]
  unfold runB.sl.r_5 runB.sl.r_6 runB.sl.r_7 runB.sl.r_8 runB.sl.r_9
  try unfold runB.sl.r_5
  rw [runB_inv, runB_plane19 (hl0 := hl0) (harg10 := harg10), ← h19]
  simp only [List.forall_mem_cons]
  refine ⟨fun x => (codesOf_emb _ _ 19 _ x (by show 0 + 1 * (x 0).val = _; omega) (by show 4864 + 1 * (x 1).val = 4864 + (x 1).val; omega)).symm, ?_⟩
  refine ⟨fun x => (codesOf_emb _ _ 18 _ x (by show 0 + 1 * (x 0).val = _; omega) (by show 4608 + 1 * (x 1).val = 4608 + (x 1).val; omega)).symm, ?_⟩
  refine ⟨fun x => (codesOf_emb _ _ 17 _ x (by show 0 + 1 * (x 0).val = _; omega) (by show 4352 + 1 * (x 1).val = 4352 + (x 1).val; omega)).symm, ?_⟩
  refine ⟨fun x => (codesOf_emb _ _ 16 _ x (by show 0 + 1 * (x 0).val = _; omega) (by show 4096 + 1 * (x 1).val = 4096 + (x 1).val; omega)).symm, ?_⟩
  refine ⟨fun x => (codesOf_emb _ _ 15 _ x (by show 0 + 1 * (x 0).val = _; omega) (by show 3840 + 1 * (x 1).val = 3840 + (x 1).val; omega)).symm, ?_⟩
  refine ⟨fun x => (codesOf_emb _ _ 14 _ x (by show 0 + 1 * (x 0).val = _; omega) (by show 3584 + 1 * (x 1).val = 3584 + (x 1).val; omega)).symm, ?_⟩
  refine ⟨fun x => (codesOf_emb _ _ 13 _ x (by show 0 + 1 * (x 0).val = _; omega) (by show 3328 + 1 * (x 1).val = 3328 + (x 1).val; omega)).symm, ?_⟩
  refine ⟨fun x => (codesOf_emb _ _ 12 _ x (by show 0 + 1 * (x 0).val = _; omega) (by show 3072 + 1 * (x 1).val = 3072 + (x 1).val; omega)).symm, ?_⟩
  refine ⟨fun x => (codesOf_emb _ _ 11 _ x (by show 0 + 1 * (x 0).val = _; omega) (by show 2816 + 1 * (x 1).val = 2816 + (x 1).val; omega)).symm, ?_⟩
  refine ⟨fun x => (codesOf_emb _ _ 10 _ x (by show 0 + 1 * (x 0).val = _; omega) (by show 2560 + 1 * (x 1).val = 2560 + (x 1).val; omega)).symm, ?_⟩
  refine ⟨fun x => (codesOf_emb _ _ 9 _ x (by show 0 + 1 * (x 0).val = _; omega) (by show 2304 + 1 * (x 1).val = 2304 + (x 1).val; omega)).symm, ?_⟩
  refine ⟨fun x => (codesOf_emb _ _ 8 _ x (by show 0 + 1 * (x 0).val = _; omega) (by show 2048 + 1 * (x 1).val = 2048 + (x 1).val; omega)).symm, ?_⟩
  refine ⟨fun x => (codesOf_emb _ _ 7 _ x (by show 0 + 1 * (x 0).val = _; omega) (by show 1792 + 1 * (x 1).val = 1792 + (x 1).val; omega)).symm, ?_⟩
  refine ⟨fun x => (codesOf_emb _ _ 6 _ x (by show 0 + 1 * (x 0).val = _; omega) (by show 1536 + 1 * (x 1).val = 1536 + (x 1).val; omega)).symm, ?_⟩
  refine ⟨fun x => (codesOf_emb _ _ 5 _ x (by show 0 + 1 * (x 0).val = _; omega) (by show 1280 + 1 * (x 1).val = 1280 + (x 1).val; omega)).symm, ?_⟩
  refine ⟨fun x => (codesOf_emb _ _ 4 _ x (by show 0 + 1 * (x 0).val = _; omega) (by show 1024 + 1 * (x 1).val = 1024 + (x 1).val; omega)).symm, ?_⟩
  refine ⟨fun x => (codesOf_emb _ _ 3 _ x (by show 0 + 1 * (x 0).val = _; omega) (by show 768 + 1 * (x 1).val = 768 + (x 1).val; omega)).symm, ?_⟩
  refine ⟨fun x => (codesOf_emb _ _ 2 _ x (by show 0 + 1 * (x 0).val = _; omega) (by show 512 + 1 * (x 1).val = 512 + (x 1).val; omega)).symm, ?_⟩
  refine ⟨fun x => (codesOf_emb _ _ 1 _ x (by show 0 + 1 * (x 0).val = _; omega) (by show 256 + 1 * (x 1).val = 256 + (x 1).val; omega)).symm, ?_⟩
  refine ⟨fun x => (codesOf_emb _ _ 0 _ x (by show 0 + 1 * (x 0).val = _; omega) (by show 0 + 1 * (x 1).val = 0 + (x 1).val; omega)).symm, ?_⟩
  intro p hp; exact absurd hp List.not_mem_nil

end Cert.Kernel.Hand

end
-- ==== Proof.Kernel.Run.lean ====
/- The body obligation of the pipeline, the run of the whole program, and the frame claim. -/
module

public import proofs.«01_k».proof.Proof.Kernel.Inv
public import proofs.«01_k».proof.Proof.Kernel.Stores

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- What a whole-buffer store leaves of a `512 × 1` buffer. -/
theorem read_one (v : View sig .tc .vmem S512x1 .f32) (f : v.ty.Contents (Elt F)) (w : Vec F S512x1 .f32) :
    v.read (Elt F) (v.writes (Elt F) f
      [(⟨Rect.unit (s := S512x1) ![0, 0] S512x1.size inb_S512x1_S512x1_0_0, w⟩ : View.Piece (Elt F) S512x1 .f32)]) = w := by
  funext y
  refine View.read_writes_cons_unit_of_mem v f inb_S512x1_S512x1_0_0 w [] y y zero2 ?_
  intro a; exact (Nat.zero_add _).symm

set_option maxHeartbeats 9600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, PhiS_castSucc m c t]
  unfold PhiS
  by_cases h0 : t.val % 20 = 19
  · have hc : lastTile (grid0.coords t) := (lastTile_iff t).mpr h0
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t hc], after0_6]
    rw [show (dats m 0 c).leavesExact 7 t = owns (c : Thread nD τ) (ms0_7 t) fullShare ((dats m 0 c).after 7 t) from by
      unfold Dat.leavesExact; rw [liveAt0_7 t hc], after0_7]
    iintro ⟨⟨%Y, %A, ⟨HS0, HS1⟩, %hK, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hA : accMax (grid0.coords t) (iblk m c 0 t) (iblk m c 1 t) (iblk m c 2 t) (iblk m c 3 t) (iblk m c 4 t) (iblk m c 5 t) A = maxAt m c t.val := maxAt_step m c t A fun h' => (hK h').1
    have hps : ∀ p : Fin 20, p.val < t.val % 20 → View.ld ((scM0_0 : Memref sig .tc .vmem S20x512x256 .f32).view.read (Elt F) ((Memref.isWhole_whole cc0_scratch0).unread Y)) (planeRect p) = planesAt m c t.val p := by
      intro p hp
      rw [(Memref.isWhole_whole cc0_scratch0).read_unread Y]
      exact (hK (by omega)).2 p hp
    iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (off1_last t h0) (iblk m c 0 t) (iblk m c 1 t) (iblk m c 2 t) (iblk m c 3 t) (iblk m c 4 t) (iblk m c 5 t) A (planesAt m c t.val 0) (planesAt m c t.val 1) (planesAt m c t.val 2) (planesAt m c t.val 3) (planesAt m c t.val 4) (planesAt m c t.val 5) (planesAt m c t.val 6) (planesAt m c t.val 7) (planesAt m c t.val 8) (planesAt m c t.val 9) (planesAt m c t.val 10) (planesAt m c t.val 11) (planesAt m c t.val 12) (planesAt m c t.val 13) (planesAt m c t.val 14) (planesAt m c t.val 15) (planesAt m c t.val 16) (planesAt m c t.val 17) (planesAt m c t.val 18)).2.2.2.2 Y (hps 0 (by show (0:ℕ) < _; omega)) (hps 1 (by show (1:ℕ) < _; omega)) (hps 2 (by show (2:ℕ) < _; omega)) (hps 3 (by show (3:ℕ) < _; omega)) (hps 4 (by show (4:ℕ) < _; omega)) (hps 5 (by show (5:ℕ) < _; omega)) (hps 6 (by show (6:ℕ) < _; omega)) (hps 7 (by show (7:ℕ) < _; omega)) (hps 8 (by show (8:ℕ) < _; omega)) (hps 9 (by show (9:ℕ) < _; omega)) (hps 10 (by show (10:ℕ) < _; omega)) (hps 11 (by show (11:ℕ) < _; omega)) (hps 12 (by show (12:ℕ) < _; omega)) (hps 13 (by show (13:ℕ) < _; omega)) (hps 14 (by show (14:ℕ) < _; omega)) (hps 15 (by show (15:ℕ) < _; omega)) (hps 16 (by show (16:ℕ) < _; omega)) (hps 17 (by show (17:ℕ) < _; omega)) (hps 18 (by show (18:ℕ) < _; omega)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, ⟨%e6, H6⟩, ⟨%e7, H7⟩, HS0, ⟨%es1, HS1⟩⟩
    isplitl [HS0 HS1 Hg]
    · iexists _, _
      isplitl [HS0 HS1]
      · isplitl [HS0]
        · unfold owns; iexists _; isplitr
          swap; · iexact HS0
          ipureintro; rfl
        unfold owns; iexists _; isplitr
        swap; · iexact HS1
        ipureintro; rfl
      isplitr
      · ipureintro; exact known_start m c _ _ _ (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro
      rw [runB_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (off1_last t h0) (iblk m c 0 t) (iblk m c 1 t) (iblk m c 2 t) (iblk m c 3 t) (iblk m c 4 t) (iblk m c 5 t) A (planesAt m c t.val) (planesAt_last m c t h0), hA]
      rfl
    unfold owns; iexists _; isplitr
    swap; · iexact H7
    ipureintro
    rw [runB_scale c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (off1_last t h0) (iblk m c 0 t) (iblk m c 1 t) (iblk m c 2 t) (iblk m c 3 t) (iblk m c 4 t) (iblk m c 5 t) A (planesAt m c t.val), hA]
    exact read_one _ _ _
  · have hc : ¬lastTile (grid0.coords t) := fun h => h0 ((lastTile_iff t).mp h)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6 t hc) (noFlush0_6 t hc)]
    rw [Dat.leavesExact_idle (dats m 0 c) 7 t (idleAt0_7 t hc) (noFlush0_7 t hc)]
    iintro ⟨⟨%Y, %A, ⟨HS0, HS1⟩, %hK, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) hc (iblk m c 0 t) (iblk m c 1 t) (iblk m c 2 t) (iblk m c 3 t) (iblk m c 4 t) (iblk m c 5 t) A).2.2 _ _ Y Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, ⟨%es1, HS1⟩⟩
    isplitl [HS0 HS1 Hg]
    · iexists _, (accMax (grid0.coords t) (iblk m c 0 t) (iblk m c 1 t) (iblk m c 2 t) (iblk m c 3 t) (iblk m c 4 t) (iblk m c 5 t) A)
      isplitl [HS0 HS1]
      · isplitl [HS0]
        · unfold owns; iexists _; isplitr
          swap; · iexact HS0
          ipureintro; rfl
        unfold owns; iexists _; isplitr
        swap; · iexact HS1
        ipureintro
        rw [runA_max]
        exact read_one _ _ _
      isplitr
      · ipureintro
        rw [runA_tile]
        exact known_step m c t _ _ Y A hK
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%Y, HS0⟩, ⟨%A, HS1⟩⟩, Hg⟩
  iexists Y, A
  isplitl [HS0 HS1]
  · isplitl [HS0]; · iexact HS0
    iexact HS1
  isplitr
  · ipureintro; exact known_start m c _ _ _ rfl
  iexact Hg

/-- After the last point the scratch arrays are handed back, what they hold forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%Y, %A, ⟨HS0, HS1⟩, -, Hg⟩
  isplitl [HS0 HS1]
  · isplitl [HS0]
    · iexists _; iexact HS0
    iexists _; iexact HS1
  iexact Hg

/-! ## The run and the frame -/

-- `θ_run_frame_track_shared`'s implicit arguments are found by unifying its conclusion with this one, which takes unfolding plain
-- definitions in a metavariable's type
set_option backward.isDefEq.respectTransparency.types false in
/-- Every execution ends with the arrays at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim, at any float model: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.lean ====
module

public import proofs.«01_k».proof.Defs
public import proofs.«01_k».proof.Proof.Algebraic
public import proofs.«01_k».proof.Proof.Kernel.Run
public import proofs.«01_k».proof.Proof.KernelIdeal.Run
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Gen.frame m ρ, by trivial, algebraic⟩

end Cert.Proof

end
